-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4096x16x256 : Shape := ⟨3, ![4096, 16, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S4096x16x256 .f32) (main_arg1 : IVec S16 32) : IVec S_ 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S4096x16x256 : Shape := ⟨3, ![4096, 16, 256]⟩
abbrev S16 : Shape := ⟨1, ![16]⟩
abbrev S2048x32x256 : Shape := ⟨3, ![2048, 32, 256]⟩
abbrev S128x256 : Shape := ⟨2, ![128, 256]⟩
abbrev S32 : Shape := ⟨1, ![32]⟩
abbrev S_ : Shape := ⟨0, ![]⟩
abbrev S1 : Shape := ⟨1, ![1]⟩
abbrev S1x16 : Shape := ⟨2, ![1, 16]⟩
abbrev S128x1x256 : Shape := ⟨3, ![128, 1, 256]⟩
abbrev S2048x16x512 : Shape := ⟨3, ![2048, 16, 512]⟩

abbrev nBuf : Table → Nat
  | .hbm => 6
  | .local .scVector .vmem => 4
  | _ => 0

abbrev bufTy : (tb : Table) → Fin (nBuf tb) → BufTy
  | .hbm, ⟨0, _⟩ => ⟨S4096x16x256, .f32⟩
  | .hbm, ⟨1, _⟩ => ⟨S16, .i32⟩
  | .hbm, ⟨2, _⟩ => ⟨S2048x32x256, .f32⟩
  | .hbm, ⟨3, _⟩ => ⟨S2048x32x256, .f32⟩
  | .hbm, ⟨4, _⟩ => ⟨S16, .i32⟩
  | .hbm, ⟨5, _⟩ => ⟨S2048x16x512, .f32⟩
  | .local .scVector .vmem, ⟨0, _⟩ => ⟨S128x256, .f32⟩
  | .local .scVector .vmem, ⟨1, _⟩ => ⟨S128x256, .f32⟩
  | .local .scVector .vmem, ⟨2, _⟩ => ⟨S32, .i32⟩
  | .local .scVector .vmem, ⟨3, _⟩ => ⟨S16, .i32⟩
  | _, _ => ⟨S4096x16x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v0_scv : Ref sig .scVector := ⟨.hbm, 2, rfl⟩
abbrev main_arg1_scv : Ref sig .scVector := ⟨.hbm, 1, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let v0 : Index := Scalar.indexCast arg1
  ![v0.toNat]
@[reducible] def k0_t1_loop : Scf.Loop 32 :=
  let c0_i32_4 : BitVec 32 := 0#32
  let c128_i32 : BitVec 32 := 128#32
  let v14 : BitVec 32 := Scalar.addi c0_i32_4 c128_i32
  let c1_i32_5 : BitVec 32 := 1#32
  ⟨c0_i32_4, v14, c1_i32_5⟩
def k0_off2 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v20 : Index := Scalar.indexCast arg10
  let c0 : Index := 0#32
  ![v20.toNat, 0]
def k0_off3 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v24 : Index := Scalar.indexCast arg10
  let c16 : Index := 16#32
  ![v24.toNat, 16]
def k0_off4 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v28 : Index := Scalar.indexCast arg10
  let c32 : Index := 32#32
  ![v28.toNat, 32]
def k0_off5 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v32 : Index := Scalar.indexCast arg10
  let c48 : Index := 48#32
  ![v32.toNat, 48]
def k0_off6 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v36 : Index := Scalar.indexCast arg10
  let c64 : Index := 64#32
  ![v36.toNat, 64]
def k0_off7 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v40 : Index := Scalar.indexCast arg10
  let c80 : Index := 80#32
  ![v40.toNat, 80]
def k0_off8 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v44 : Index := Scalar.indexCast arg10
  let c96 : Index := 96#32
  ![v44.toNat, 96]
def k0_off9 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v48 : Index := Scalar.indexCast arg10
  let c112 : Index := 112#32
  ![v48.toNat, 112]
def k0_off10 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v52 : Index := Scalar.indexCast arg10
  let c128 : Index := 128#32
  ![v52.toNat, 128]
def k0_off11 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v56 : Index := Scalar.indexCast arg10
  let c144 : Index := 144#32
  ![v56.toNat, 144]
def k0_off12 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v60 : Index := Scalar.indexCast arg10
  let c160 : Index := 160#32
  ![v60.toNat, 160]
def k0_off13 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v64 : Index := Scalar.indexCast arg10
  let c176 : Index := 176#32
  ![v64.toNat, 176]
def k0_off14 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v68 : Index := Scalar.indexCast arg10
  let c192 : Index := 192#32
  ![v68.toNat, 192]
def k0_off15 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v72 : Index := Scalar.indexCast arg10
  let c208 : Index := 208#32
  ![v72.toNat, 208]
def k0_off16 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v76 : Index := Scalar.indexCast arg10
  let c224 : Index := 224#32
  ![v76.toNat, 224]
def k0_off17 (k0_t1 : Fin k0_t1_loop.trips) : Fin 2 → Nat :=
  let c0_i32_4 : BitVec 32 := 0#32
  let c1_i32_5 : BitVec 32 := 1#32
  let arg10 : BitVec 32 := Scf.iv c0_i32_4 c1_i32_5 k0_t1
  let v80 : Index := Scalar.indexCast arg10
  let c240 : Index := 240#32
  ![v80.toNat, 240]
@[reducible] def k0_t2_loop : Scf.Loop 32 :=
  let c0_i32_8 : BitVec 32 := 0#32
  let c16_i32_9 : BitVec 32 := 16#32
  let v19 : BitVec 32 := Scalar.addi c0_i32_8 c16_i32_9
  let c1_i32_10 : BitVec 32 := 1#32
  ⟨c0_i32_8, v19, c1_i32_10⟩
def k0_off18 (i : grid0.Coords) (k0_t2 : Fin k0_t2_loop.trips) : Fin 3 → Nat :=
  let c0_i32_8 : BitVec 32 := 0#32
  let c1_i32_10 : BitVec 32 := 1#32
  let arg10 : BitVec 32 := Scf.iv c0_i32_8 c1_i32_10 k0_t2
  let c128_i32_12 : BitVec 32 := 128#32
  let v20 : BitVec 32 := Scalar.muli arg10 c128_i32_12
  let arg1 : BitVec 32 := BitVec.ofNat 32 (i 1).val
  let c2_i32 : BitVec 32 := 2#32
  let v17 : BitVec 32 := Scalar.muli arg1 c2_i32
  let arg0 : BitVec 32 := BitVec.ofNat 32 (i 0).val
  let v18 : BitVec 32 := Scalar.addi v17 arg0
  let c0_i32_15_r3 : BitVec 32 := 0#32
  ![v20.toNat, v18.toNat, 0]
def k0_off19 (i : grid0.Coords) (k0_t2 : Fin k0_t2_loop.trips) : Fin 3 → Nat :=
  let c0_i32_8 : BitVec 32 := 0#32
  let c1_i32_10 : BitVec 32 := 1#32
  let arg10 : BitVec 32 := Scf.iv c0_i32_8 c1_i32_10 k0_t2
  let c128_i32_12 : BitVec 32 := 128#32
  let v20 : BitVec 32 := Scalar.muli arg10 c128_i32_12
  let arg0 : BitVec 32 := BitVec.ofNat 32 (i 0).val
  let c16_i32 : BitVec 32 := 16#32
  let v15 : BitVec 32 := Scalar.muli arg0 c16_i32
  let arg1 : BitVec 32 := BitVec.ofNat 32 (i 1).val
  let v16 : BitVec 32 := Scalar.addi v15 arg1
  let c0_i32_17_r4 : BitVec 32 := 0#32
  ![v20.toNat, v16.toNat, 0]
@[reducible] def k0_t3_loop : Scf.Loop 32 :=
  let c0_i32_18 : BitVec 32 := 0#32
  let c128_i32_19 : BitVec 32 := 128#32
  let v32 : BitVec 32 := Scalar.addi c0_i32_18 c128_i32_19
  let c1_i32_20 : BitVec 32 := 1#32
  ⟨c0_i32_18, v32, c1_i32_20⟩
def k0_off20 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v36 : Index := Scalar.indexCast arg11
  let c0 : Index := 0#32
  ![v36.toNat, 0]
def k0_off21 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v40 : Index := Scalar.indexCast arg11
  let c16 : Index := 16#32
  ![v40.toNat, 16]
def k0_off22 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v44 : Index := Scalar.indexCast arg11
  let c32 : Index := 32#32
  ![v44.toNat, 32]
def k0_off23 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v48 : Index := Scalar.indexCast arg11
  let c48 : Index := 48#32
  ![v48.toNat, 48]
def k0_off24 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v52 : Index := Scalar.indexCast arg11
  let c64 : Index := 64#32
  ![v52.toNat, 64]
def k0_off25 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v56 : Index := Scalar.indexCast arg11
  let c80 : Index := 80#32
  ![v56.toNat, 80]
def k0_off26 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v60 : Index := Scalar.indexCast arg11
  let c96 : Index := 96#32
  ![v60.toNat, 96]
def k0_off27 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v64 : Index := Scalar.indexCast arg11
  let c112 : Index := 112#32
  ![v64.toNat, 112]
def k0_off28 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v68 : Index := Scalar.indexCast arg11
  let c128 : Index := 128#32
  ![v68.toNat, 128]
def k0_off29 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v72 : Index := Scalar.indexCast arg11
  let c144 : Index := 144#32
  ![v72.toNat, 144]
def k0_off30 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v76 : Index := Scalar.indexCast arg11
  let c160 : Index := 160#32
  ![v76.toNat, 160]
def k0_off31 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v80 : Index := Scalar.indexCast arg11
  let c176 : Index := 176#32
  ![v80.toNat, 176]
def k0_off32 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v84 : Index := Scalar.indexCast arg11
  let c192 : Index := 192#32
  ![v84.toNat, 192]
def k0_off33 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v88 : Index := Scalar.indexCast arg11
  let c208 : Index := 208#32
  ![v88.toNat, 208]
def k0_off34 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v92 : Index := Scalar.indexCast arg11
  let c224 : Index := 224#32
  ![v92.toNat, 224]
def k0_off35 (k0_t3 : Fin k0_t3_loop.trips) : Fin 2 → Nat :=
  let c0_i32_18 : BitVec 32 := 0#32
  let c1_i32_20 : BitVec 32 := 1#32
  let arg11 : BitVec 32 := Scf.iv c0_i32_18 c1_i32_20 k0_t3
  let v96 : Index := Scalar.indexCast arg11
  let c240 : Index := 240#32
  ![v96.toNat, 240]
def k0_off36 (i : grid0.Coords) (k0_t2 : Fin k0_t2_loop.trips) : Fin 3 → Nat :=
  let c0_i32_8 : BitVec 32 := 0#32
  let c1_i32_10 : BitVec 32 := 1#32
  let arg10 : BitVec 32 := Scf.iv c0_i32_8 c1_i32_10 k0_t2
  let c128_i32_12 : BitVec 32 := 128#32
  let v20 : BitVec 32 := Scalar.muli arg10 c128_i32_12
  let arg1 : BitVec 32 := BitVec.ofNat 32 (i 1).val
  let c2_i32 : BitVec 32 := 2#32
  let v17 : BitVec 32 := Scalar.muli arg1 c2_i32
  let arg0 : BitVec 32 := BitVec.ofNat 32 (i 0).val
  let v18 : BitVec 32 := Scalar.addi v17 arg0
  let c0_i32_17_r5 : BitVec 32 := 0#32
  ![v20.toNat, v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x16x256 : Shape := ⟨3, ![4096, 16, 256]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x16x1 : Shape := ⟨3, ![4096, 16, 1]⟩
abbrev S_ : Shape := ⟨0, ![]⟩
abbrev S16x4096x256 : Shape := ⟨3, ![16, 4096, 256]⟩
abbrev S16x0x256 : Shape := ⟨3, ![16, 0, 256]⟩
abbrev S16x2048x512 : Shape := ⟨3, ![16, 2048, 512]⟩
abbrev S2048x16x512 : Shape := ⟨3, ![2048, 16, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x16x256, .f32⟩
  | .hbm, ⟨1, _⟩ => ⟨S16, .i32⟩
  | .hbm, ⟨2, _⟩ => ⟨S4096, .i32⟩
  | .hbm, ⟨3, _⟩ => ⟨S4096x1, .i32⟩
  | .hbm, ⟨4, _⟩ => ⟨S1x16, .i32⟩
  | .hbm, ⟨5, _⟩ => ⟨S4096x16, .i32⟩
  | .hbm, ⟨6, _⟩ => ⟨S4096x16, .i32⟩
  | .hbm, ⟨7, _⟩ => ⟨S4096x16, .i1⟩
  | .hbm, ⟨8, _⟩ => ⟨S4096x16x1, .i1⟩
  | .hbm, ⟨9, _⟩ => ⟨S_, .f32⟩
  | .hbm, ⟨10, _⟩ => ⟨S4096x16x256, .i1⟩
  | .hbm, ⟨11, _⟩ => ⟨S4096x16x256, .f32⟩
  | .hbm, ⟨12, _⟩ => ⟨S4096x16x256, .f32⟩
  | .hbm, ⟨13, _⟩ => ⟨S16x4096x256, .f32⟩
  | .hbm, ⟨14, _⟩ => ⟨S_, .f32⟩
  | .hbm, ⟨15, _⟩ => ⟨S16x0x256, .f32⟩
  | .hbm, ⟨16, _⟩ => ⟨S16x4096x256, .f32⟩
  | .hbm, ⟨17, _⟩ => ⟨S16x2048x512, .f32⟩
  | .hbm, ⟨18, _⟩ => ⟨S2048x16x512, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S16, .f32⟩
  | .hbm, ⟨24, _⟩ => ⟨S16, .i32⟩
  | _, _ => ⟨S4096x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.KernelIdeal.Setup.lean ====
/-
  The kernel as the launch theorem sees it: its call's configuration, the resource algebra its proof runs over, the
  arrays and scratches by name, and what the kernel leaves in its two results as functions of its two operands.

  The call runs on the tiles (core `j` of 2, subcore `n` of 16). Its operands are `x` regrouped as 2048 × 32 × 256
  (column `16 j + n` of row `t` is frame `2 t + j` of sequence `n`) and the sixteen lengths; its results are the stacked
  frames as 2048 × 32 × 256 (column `2 n + j` of row `t` is half `j` of stacked frame `t` of sequence `n`) and the
  sixteen halved lengths.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.KernelIdeal
public import proofs.«01_k».proof.Proof.Gen.KernelIdeal.Skeleton

@[expose] public section

noncomputable section

namespace Cert.KernelIdeal.Stack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are distinct and belong to no task, no buffer of a sequencer is shared with its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes beside the transfers' counters -/

abbrev UH : Type := URounds (GSem nD τ sig) ℕ
abbrev UU : Type := UH × Counters
/-- The assertions' algebra. -/
abbrev MM (F : FTy → Type) : Type := MT nD τ sig (HIx 1) (Elt F) ℕ UU ℕ
abbrev EH : Emb UH (MM F) := embL

/-! ## The arrays and the tiles -/

/-- `x`, the lengths, `x` regrouped, the stacked frames by column, the halved lengths, and the stacked frames: as locations
    of device `d`. -/
abbrev aLoc (d : Dev nD) : Loc nD τ sig := (SparseCore.T d).loc main_arg0
/-- The lengths, the regrouped input, the stacked frames, the halved lengths and the regrouped result. -/
abbrev lLoc (d : Dev nD) : Loc nD τ sig := (SparseCore.T d).loc main_arg1
abbrev xLoc (d : Dev nD) : Loc nD τ sig := (SparseCore.T d).loc main_v0
abbrev oLoc (d : Dev nD) : Loc nD τ sig := (SparseCore.T d).loc main_v1_0
abbrev hLoc (d : Dev nD) : Loc nD τ sig := (SparseCore.T d).loc main_v1_1
abbrev rLoc (d : Dev nD) : Loc nD τ sig := (SparseCore.T d).loc main_v2

/-- A tile's core and subcore as the machine numbers them. -/
abbrev cV (L : grid0.Coords) : Fin τ.nSC := (L 0).castLE hcore0
abbrev jV (L : grid0.Coords) : Fin τ.nSub := (L 1).castLE hsub0
/-- The thread of the tile at coordinates `L`. -/
abbrev tile (d : Dev nD) (L : grid0.Coords) : Thread nD τ := V d (cV L) (jV L)

/-- A tile's core is one of two, its subcore one of sixteen. -/
theorem core_lt (L : grid0.Coords) : (L 0).val < 2 := (L 0).isLt
theorem sub_lt (L : grid0.Coords) : (L 1).val < 16 := (L 1).isLt

/-- The tile's column of the regrouped input, and its column of the output. -/
def inCol (j n : ℕ) (hj : j < 2) (hn : n < 16) : Fin 32 := ⟨16 * j + n, by omega⟩
def outCol (L : grid0.Coords) : Fin 32 := ⟨2 * (L 1).val + (L 0).val, by have := core_lt L; have := sub_lt L; omega⟩

/-! ## What the kernel computes -/

section Target

variable [FloatOps F]

/-- The float zero the kernel stores. -/
abbrev zero : F .f32 := Scalar.ofBits .f32 0x00000000#32

/-- How many frames the tile at core `j` copies of a sequence of length word `w`. -/
def count (w : BitVec 32) (j : ℕ) : BitVec 32 := Scalar.shrui (Scalar.addi w (Scalar.subi 1#32 (BitVec.ofNat 32 j))) 1#32

/-- The output column `q` at row `t`: a frame of the input while `t` is below the column's count, zero from there on. -/
def stacked (l : S16.Idx → BitVec 32) (x : S2048x32x256.Idx → F .f32) : S2048x32x256.Idx → F .f32 := fun y =>
  let q : Fin 32 := y 1
  if (y 0).val < (count (l (ix1 ⟨q.val / 2, by omega⟩)) (q.val % 2)).toNat
  then x (ix3 (y 0) (inCol (q.val % 2) (q.val / 2) (by omega) (by omega)) (y 2)) else zero

/-- Each length plus one, halved. -/
def halved (l : S16.Idx → BitVec 32) : S16.Idx → BitVec 32 := fun i => Scalar.shrui (Scalar.addi (l i) 1#32) 1#32

end Target

end Cert.KernelIdeal.Stack

end
-- ==== Proof.KernelIdeal.Rows.lean ====
/-
  The two row loops of the kernel's body: the one that fills the zero block row by row, and the one that zeroes the rows
  of the fetched block from the sequence's end on.
-/
module

public import proofs.«01_k».proof.Proof.KernelIdeal.Setup

@[expose] public section

noncomputable section

namespace Cert.KernelIdeal.Stack

open Cert.KernelIdeal Cert.KernelIdeal.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

/-! ## A row stored in sixteen pieces -/

/-- Piece `p` is sixteen zeros at row `k`, lanes `16 c` to `16 c + 15`. -/
def ZeroLanes (k c : ℕ) (p : View.Piece (Elt F) S128x256 .f32) : Prop :=
  (∀ y : S128x256.Idx, y ∈ p.1.set ↔ (y 0).val = k ∧ 16 * c ≤ (y 1).val ∧ (y 1).val < 16 * c + 16) ∧ ∀ x, p.2 x = zero

/-- A store of zeros at a closed offset is such a piece. -/
theorem zeroLanes_of {off : Fin 2 → ℕ} {inb : ∀ a, off a + S1x16.size a ≤ S128x256.size a} {k c : ℕ} (h : ClosedOff off)
    (hk : h.form = ![k, 16 * c]) {w : (Rect.unit (s := S128x256) off S1x16.size inb).shape.Idx → F .f32} (hw : ∀ x, w x = zero) :
    ZeroLanes (F := F) k c ⟨Rect.unit (s := S128x256) off S1x16.size inb, w⟩ := by
  obtain rfl : off = ![k, 16 * c] := h.eq.trans hk
  refine ⟨fun y => ?_, hw⟩
  rw [Rect.mem_set_unit, Fin.forall_fin_two]
  show (k ≤ (y 0).val ∧ (y 0).val < k + 1) ∧ 16 * c ≤ (y 1).val ∧ (y 1).val < 16 * c + 16 ↔ _
  omega

/-- The list of the sixteen pieces, newest first, counts down. -/
theorem descending : ∀ j : Fin 16, ([15, 14, 13, 12, 11, 10, 9, 8, 7, 6, 5, 4, 3, 2, 1, 0] : List ℕ)[15 - j.val]'(by simp; omega) = j.val := by
  decide

/-- Sixteen such pieces side by side zero row `k` and leave the other rows. -/
theorem zero_row (m : Memref sig .scVector .vmem S128x256 .f32) {k : ℕ} {L : List (View.Piece (Elt F) S128x256 .f32)}
    (hL : List.Forall₂ (ZeroLanes k) [15, 14, 13, 12, 11, 10, 9, 8, 7, 6, 5, 4, 3, 2, 1, 0] L) (f : m.view.ty.Contents (Elt F)) (y : S128x256.Idx) :
    m.view.read (Elt F) (m.view.writes (Elt F) f L) y = if (y 0).val = k then zero else m.view.read (Elt F) f y := by
  have hmem : ∀ p ∈ L, ∃ c, ZeroLanes k c p := fun p hp => by
    obtain ⟨n, hn, rfl⟩ := List.getElem_of_mem hp
    exact ⟨_, (List.forall₂_iff_get.mp hL).2 n (by rw [hL.length_eq]; exact hn) hn⟩
  split
  · rename_i hy
    refine View.read_writes_apply_of_pieces (v := m.view) f (fun _ => zero) L (fun p hp x => ?_) y ?_
    · obtain ⟨c, hc⟩ := hmem p hp
      exact hc.2 x
    · have hy1 : (y 1).val < 256 := (y 1).isLt
      have hlen : L.length = 16 := hL.length_eq.symm
      have hi : 15 - (y 1).val / 16 < L.length := by omega
      refine ⟨L[15 - (y 1).val / 16], List.getElem_mem hi, ?_⟩
      have hz := (List.forall₂_iff_get.mp hL).2 (15 - (y 1).val / 16) (by rw [hL.length_eq]; exact hi) hi
      refine (hz.1 y).mpr ⟨hy, ?_⟩
      have := descending ⟨(y 1).val / 16, by omega⟩
      simp only [List.get_eq_getElem] at *
      rw [this]
      omega
  · rename_i hy
    refine View.read_writes_apply_of_forall_not_mem (v := m.view) f y L fun p hp hyp => ?_
    obtain ⟨c, hc⟩ := hmem p hp
    exact hy ((hc.1 y).mp hyp).1

/-- So on the zero block, read whole. -/
theorem zero_row_blank {k : ℕ} {L : List (View.Piece (Elt F) S128x256 .f32)}
    (hL : List.Forall₂ (ZeroLanes k) [15, 14, 13, 12, 11, 10, 9, 8, 7, 6, 5, 4, 3, 2, 1, 0] L) (f : S128x256.Idx → Elt F .f32) (y : S128x256.Idx) :
    (Memref.whole cc0_scratch1).view.writes (Elt F) f L y = if (y 0).val = k then zero else f y :=
  zero_row (Memref.whole cc0_scratch1) hL f y

/-- So on the fetched block, read whole. -/
theorem zero_row_block {k : ℕ} {L : List (View.Piece (Elt F) S128x256 .f32)}
    (hL : List.Forall₂ (ZeroLanes k) [15, 14, 13, 12, 11, 10, 9, 8, 7, 6, 5, 4, 3, 2, 1, 0] L) (f : S128x256.Idx → Elt F .f32) (y : S128x256.Idx) :
    (Memref.whole cc0_scratch0).view.writes (Elt F) f L y = if (y 0).val = k then zero else f y :=
  zero_row (Memref.whole cc0_scratch0) hL f y

/-! ## The kernel's conditions -/

/-- A bit widened and compared with zero is the bit. -/
theorem widened_iff (b : BitVec 1) : Scalar.cmpi .ne (Scalar.extui b : BitVec 32) 0#32 = 1#1 ↔ b = 1#1 := by
  revert b; decide

/-- The word of a decided proposition is one exactly when the proposition holds. -/
theorem ofBool_iff (p : Prop) [Decidable p] : BitVec.ofBool (decide p) = 1#1 ↔ p := by
  by_cases h : p <;> simp [h]

/-- The four signed comparisons the kernel branches on. -/
theorem sge_iff (a b : BitVec 32) : Scalar.cmpi .ne (Scalar.extui (Scalar.cmpi .sge a b) : BitVec 32) 0#32 = 1#1 ↔ b.toInt ≤ a.toInt := by
  rw [widened_iff, show Scalar.cmpi .sge a b = BitVec.ofBool (decide (b.toInt ≤ a.toInt)) from rfl, ofBool_iff]
theorem sle_iff (a b : BitVec 32) : Scalar.cmpi .ne (Scalar.extui (Scalar.cmpi .sle a b) : BitVec 32) 0#32 = 1#1 ↔ a.toInt ≤ b.toInt := by
  rw [widened_iff, show Scalar.cmpi .sle a b = BitVec.ofBool (decide (a.toInt ≤ b.toInt)) from rfl, ofBool_iff]
theorem sgt_iff (a b : BitVec 32) : Scalar.cmpi .ne (Scalar.extui (Scalar.cmpi .sgt a b) : BitVec 32) 0#32 = 1#1 ↔ b.toInt < a.toInt := by
  rw [widened_iff, show Scalar.cmpi .sgt a b = BitVec.ofBool (decide (b.toInt < a.toInt)) from rfl, ofBool_iff]
theorem slt_iff (a b : BitVec 32) : Scalar.cmpi .ne (Scalar.extui (Scalar.cmpi .slt a b) : BitVec 32) 0#32 = 1#1 ↔ a.toInt < b.toInt := by
  rw [widened_iff, show Scalar.cmpi .slt a b = BitVec.ofBool (decide (a.toInt < b.toInt)) from rfl, ofBool_iff]

/-- The counter of a loop from zero in steps of one. -/
theorem counter_toInt (k : ℕ) (hk : k < 128) : (Scf.iv 0#32 1#32 k).toInt = k := by
  rw [show Scf.iv 0#32 1#32 k = BitVec.ofNat 32 k by simp [Scf.iv], BitVec.toInt_eq_toNat_of_lt (by simp; omega)]
  simp; omega

/-! ## The loops' trips -/

variable (d : Dev nD) (L : grid0.Coords)

/-- One trip of the zeroing loop stores zeros over row `k` of the zero block and leaves its other rows. -/
theorem zero_trip (k : Fin k0_t1_loop.trips) (f : Buf (Elt F) ((tile d L).loc cc0_scratch1)) :
    (((Memref.whole cc0_scratch1).view.loc (tile d L) ↦{fullShare} f) : sProp (MM F))
      ⊢ wp frame (wpE (defs₀ (F := F)) 𝒱₀ (tile d L) none) Set.univ
          (k0_t1_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k ())
          fun _ => iprop(∃ f', ⌜∀ y : S128x256.Idx, f' y = if (y 0).val = k.val then zero else f y⌝
            ∗ (Memref.whole cc0_scratch1).view.loc (tile d L) ↦{fullShare} f') := by
  unfold k0_t1_body
  rw [k0_part1_eq_skeleton]; unfold k0_part1_skel
  iintro H
  sl_exec
  sl_step
  iexists _
  isplitr
  rotate_left
  · iexact H
  ipureintro
  refine zero_row_blank ?_ f
  repeat' first | exact .nil | refine .cons (zeroLanes_of inferInstance rfl fun _ => rfl) ?_

/-- One trip of the masking loop stores zeros over row `k` of the fetched block if `m`, the frames the sequence has left
    in this block, is at most `k`, and leaves the block otherwise. -/
theorem mask_trip (m : BitVec 32) (k : Fin k0_t3_loop.trips) (f : Buf (Elt F) ((tile d L).loc cc0_scratch0)) :
    (((Memref.whole cc0_scratch0).view.loc (tile d L) ↦{fullShare} f) : sProp (MM F))
      ⊢ wp frame (wpE (defs₀ (F := F)) 𝒱₀ (tile d L) none) Set.univ
          (k0_t3_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k0_pay29 m k ())
          fun _ => iprop(∃ f', ⌜∀ y : S128x256.Idx, f' y = if (y 0).val = k.val ∧ m.toInt ≤ k.val then zero else f y⌝
            ∗ (Memref.whole cc0_scratch0).view.loc (tile d L) ↦{fullShare} f') := by
  unfold k0_t3_body
  rw [k0_part2_eq_skeleton]; unfold k0_part2_skel
  by_cases h : Scalar.cmpi .ne (Scalar.extui (Scalar.cmpi .sge (Scf.iv 0#32 1#32 k) m) : BitVec 32) 0#32 = 1#1
  · iintro H
    sl_exec
    sl_step
    iexists _
    isplitr
    rotate_left
    · iexact H
    ipureintro
    have hm : m.toInt ≤ k.val := by rw [sge_iff, counter_toInt k k.isLt] at h; exact h
    simp only [hm, and_true]
    refine zero_row_block ?_ f
    repeat' first | exact .nil | refine .cons (zeroLanes_of inferInstance rfl fun _ => rfl) ?_
  · iintro H
    sl_exec
    sl_step
    iexists _
    isplitr
    rotate_left
    · iexact H
    ipureintro
    have hm : ¬ m.toInt ≤ k.val := by rw [sge_iff, counter_toInt k k.isLt] at h; exact h
    simp [hm]

end Cert.KernelIdeal.Stack

end
-- ==== Proof.KernelIdeal.Chunk.lean ====
/-
  One trip of a tile's loop over the sixteen chunks of its output column. A chunk the sequence does not reach is written
  with zeros from the zero block. Any other chunk is fetched into the fetched block, its rows past the sequence's end are
  zeroed if the sequence ends inside it, and the block is written out.
-/
module

public import proofs.«01_k».proof.Proof.KernelIdeal.Rows

@[expose] public section

noncomputable section

namespace Cert.KernelIdeal.Stack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

variable [FloatOps F]

/-- Chunk `k` of the tile's output column, and of its input column, as the kernel addresses them. -/
abbrev outChunk (L : grid0.Coords) (k : Fin k0_t2_loop.trips) : Memref sig .scVector .hbm S128x256 .f32 :=
  ((Memref.whole main_v1_0_scv).slice (Rect.unit (s := S2048x32x256) (k0_off18 L k) S128x1x256.size (k0_off18_inb L k)) (fun _ => rfl)).squeeze
    S128x256 squeezes_S128x1x256_S128x256
/-- The same rows of the tile's input column. -/
abbrev inChunk (L : grid0.Coords) (k : Fin k0_t2_loop.trips) : Memref sig .scVector .hbm S128x256 .f32 :=
  ((Memref.whole main_v0_scv).slice (Rect.unit (s := S2048x32x256) (k0_off19 L k) S128x1x256.size (k0_off19_inb L k)) (fun _ => rfl)).squeeze
    S128x256 squeezes_S128x1x256_S128x256

/-- The tile's output column: its first `c` frames from the input column, zero from there on. -/
def column (L : grid0.Coords) (c : BitVec 32) (x : S2048x32x256.Idx → F .f32) : S2048x32x256.Idx → F .f32 := fun y =>
  if (y 0).val < c.toNat then x (ix3 (y 0) (inCol (L 0).val (L 1).val (core_lt L) (sub_lt L)) (y 2)) else zero

/-- What one trip leaves: the blocks, the semaphores and the account of waits as it found them. -/
def held (d : Dev nD) (L : grid0.Coords) (q : PosShare TreeShare) (x : S2048x32x256.Idx → F .f32) (O : CellTallies nD τ sig (HIx 1)) (W : Waits sig (HIx 1)) :
    sProp (MM F) :=
  iprop(Transfers.MayWaits (tile d L) (none : HIx 1) O
    ∗ ((Memref.whole main_v0_scv).view.loc (tile d L) ↦{q} x)
    ∗ (∃ f, (Memref.whole cc0_scratch0).view.loc (tile d L) ↦{fullShare} f)
    ∗ ((Memref.whole cc0_scratch1).view.loc (tile d L) ↦{fullShare} fun _ => zero)
    ∗ semVal (tile d L, SemLoc.dma cc0_scoped3.sem) 0
    ∗ semVal (tile d L, SemLoc.dma cc0_scoped4.sem) 0
    ∗ semVal (tile d L, SemLoc.dma cc0_scoped5.sem) 0
    ∗ ∃ W', ⌜∀ p ∈ W', p ∈ W ∨ p.2 = none⌝ ∗ owes (tile d L) O W')

/-! ## Where a chunk's elements lie -/

/-- Row `t` of chunk `k`. -/
def rowAt (k : Fin k0_t2_loop.trips) (t : Fin 128) : Fin 2048 :=
  ⟨128 * k.val + t.val, by have h : k0_t2_loop.trips = 16 := by decide
                           omega⟩

/-- The place of row `t`, lane `c` of a squeezed chunk at `off`. -/
theorem chunk_idx {off : Fin 3 → ℕ} {inb : ∀ a, off a + S128x1x256.size a ≤ S2048x32x256.size a} {k : Fin k0_t2_loop.trips} {n : ℕ} (hn : n < 32)
    (h : off = ![128 * k.val, n, 0]) (z : S128x256.Idx) :
    (Rect.unit (s := S2048x32x256) off S128x1x256.size inb).emb (Shape.reshapeEquiv squeezes_S128x1x256_S128x256.numel_eq z)
      = ix3 (rowAt k (z 0)) (⟨n, hn⟩ : Fin 32) (z 1) := by
  subst h
  rw [show Shape.reshapeEquiv squeezes_S128x1x256_S128x256.numel_eq z = (ix3 (n0 := 128) (n1 := 1) (n2 := 256) (z 0) (0 : Fin 1) (z 1) : S128x1x256.Idx) from
    Shape.reshapeEquiv_eq_of_rowMajor _ (by
      rw [Shape.rowMajor_val_three, Shape.rowMajor_val_two]
      show ((z 0).val * 1 + 0) * 256 + (z 1).val = (z 0).val * 256 + (z 1).val
      omega)]
  funext a
  apply Fin.ext
  match a with
  | 0 => show 128 * k.val + 1 * (z 0).val = 128 * k.val + (z 0).val; omega
  | 1 => show n + 1 * 0 = n; omega
  | 2 => show 0 + 1 * (z 1).val = (z 1).val; omega

/-- Element `z` of the output chunk lies at its own row, in the tile's output column. -/
theorem outChunk_emb (L : grid0.Coords) (k : Fin k0_t2_loop.trips) (z : S128x256.Idx) :
    (outChunk L k).view.emb z = ix3 (rowAt k (z 0)) (outCol L) (z 1) :=
  chunk_idx (outCol L).isLt (k0_off18_eq L k) z

/-- Element `z` of the input chunk lies at its own row, in the tile's input column. -/
theorem inChunk_emb (L : grid0.Coords) (k : Fin k0_t2_loop.trips) (z : S128x256.Idx) :
    (inChunk L k).view.emb z = ix3 (rowAt k (z 0)) (inCol (L 0).val (L 1).val (core_lt L) (sub_lt L)) (z 1) :=
  chunk_idx (inCol (L 0).val (L 1).val (core_lt L) (sub_lt L)).isLt (k0_off19_eq L k) z

/-- Row `t` of the fetched block, as the input column has it. -/
theorem fetched (L : grid0.Coords) (k : Fin k0_t2_loop.trips) (x : S2048x32x256.Idx → F .f32) (z : S128x256.Idx) :
    (inChunk L k).view.read (Elt F) x z = x (ix3 ((outChunk L k).view.emb z 0) (inCol (L 0).val (L 1).val (core_lt L) (sub_lt L)) (z 1)) := by
  rw [View.read_apply, inChunk_emb, outChunk_emb]; rfl

/-- A block written to the chunk is the column there if its rows are the column's. -/
theorem landed {L : grid0.Coords} {k : Fin k0_t2_loop.trips} {c : BitVec 32} {x : S2048x32x256.Idx → F .f32} (f : S2048x32x256.Idx → F .f32)
    {w : S128x256.Idx → F .f32} (hw : ∀ z, w z = column L c x ((outChunk L k).view.emb z)) :
    ∀ y ∈ (outChunk L k).view.set, (outChunk L k).view.writes (Elt F) f [⟨Rect.whole S128x256, w⟩] y = column L c x y := by
  intro y hy
  obtain ⟨z, -, rfl⟩ := Finset.mem_map.mp hy
  have hp : ∀ p ∈ ([⟨Rect.whole S128x256, w⟩] : List (View.Piece (Elt F) S128x256 .f32)), ∀ t : p.1.shape.Idx, p.2 t = w (p.1.emb t) := by
    intro p hp
    rw [List.mem_singleton] at hp
    subst hp
    exact fun t => congrArg w (Rect.emb_whole_apply S128x256 t).symm
  have hz : ∃ p ∈ ([⟨Rect.whole S128x256, w⟩] : List (View.Piece (Elt F) S128x256 .f32)), z ∈ p.1.set :=
    ⟨_, List.mem_singleton_self _, by
      show z ∈ (Rect.whole S128x256).set
      rw [Rect.set_whole]; exact Finset.mem_univ z⟩
  have h := View.read_writes_apply_of_pieces (v := (outChunk L k).view) f w _ hp z hz
  rw [View.read_apply, cast_eq] at h
  rw [h, hw z]

/-- Row `t` of a column of `c` frames, by its place in the chunk. -/
theorem column_emb (L : grid0.Coords) (k : Fin k0_t2_loop.trips) (c : BitVec 32) (x : S2048x32x256.Idx → F .f32) (z : S128x256.Idx) :
    column L c x ((outChunk L k).view.emb z) = if 128 * k.val + (z 0).val < c.toNat then (inChunk L k).view.read (Elt F) x z else zero := by
  rw [fetched, outChunk_emb]; rfl

/-- The first row of the chunk, as the kernel computes it. -/
theorem chunk_toInt (k : Fin k0_t2_loop.trips) : (Scalar.muli (Scf.iv 0#32 1#32 k) 128#32 : BitVec 32).toInt = 128 * k.val := by
  revert k; decide
/-- The first row after the chunk, as the kernel computes it. -/
theorem next_toInt (k : Fin k0_t2_loop.trips) : (Scalar.addi (Scalar.muli (Scf.iv 0#32 1#32 k) 128#32) 128#32 : BitVec 32).toInt = 128 * k.val + 128 := by
  revert k; decide

/-- How many frames the sequence has left at the chunk's first row, as the kernel computes it. -/
theorem left_toInt (k : Fin k0_t2_loop.trips) (c : BitVec 32) (h1 : 128 * k.val < c.toNat) (h2 : c.toNat < 128 * k.val + 128) :
    (Scalar.subi c (Scalar.muli (Scf.iv 0#32 1#32 k) 128#32)).toInt = (c.toNat : ℤ) - 128 * k.val := by
  have hk : k.val < 16 := k.isLt
  have hv : (Scalar.muli (Scf.iv 0#32 1#32 k) 128#32 : BitVec 32).toNat = 128 * k.val := by clear h1 h2; revert k; decide
  have hs : (Scalar.subi c (Scalar.muli (Scf.iv 0#32 1#32 k) 128#32)).toNat = c.toNat - 128 * k.val := by
    show (c - _).toNat = _
    rw [BitVec.toNat_sub_of_le (by rw [BitVec.le_def, hv]; omega), hv]
  rw [BitVec.toInt_eq_toNat_of_lt (by omega), hs]; omega

/-- Waits recorded beyond `W` at the tile's own index. -/
theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

/-! ## The masking loop -/

/-- The fetched block before trip `k`: `x`'s rows, those below `k` zeroed from row `m` on. -/
def masking (d : Dev nD) (L : grid0.Coords) (m : BitVec 32) (w : S128x256.Idx → F .f32) (k : ℕ) (_ : Unit) : sProp (MM F) :=
  iprop(∃ f : S128x256.Idx → F .f32, ⌜∀ z, f z = if (z 0).val < k ∧ m.toInt ≤ (z 0).val then zero else w z⌝
    ∗ (Memref.whole cc0_scratch0).view.loc (tile d L) ↦{fullShare} f)

/-- One trip of the masking loop: row `k` is zero afterwards if it is past the frames that are left, and as it was otherwise. -/
theorem mask_step (d : Dev nD) (L : grid0.Coords) (m : BitVec 32) (w : S128x256.Idx → F .f32) (k : Fin k0_t3_loop.trips) :
    masking d L m w k.val ()
      ⊢ wp frame (wpE (defs₀ (F := F)) 𝒱₀ (tile d L) none) Set.univ
          (k0_t3_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k0_pay29 m k ())
          (masking d L m w (k.val + 1)) := by
  unfold masking
  iintro ⟨%f, %hf, H⟩
  iapply ((mask_trip d L m k f).trans (wp_mono frame _ _ fun _ => ?_)) $$ H
  iintro ⟨%f', %hf', H⟩
  iexists f'
  isplitr
  · ipureintro
    intro z
    rw [hf' z, hf z]
    by_cases h1 : (z 0).val = k.val
    · simp only [h1, lt_irrefl, false_and, true_and, if_false, Nat.lt_succ_self]
    · simp only [h1, false_and, if_false, show (z 0).val < k.val + 1 ↔ (z 0).val < k.val by omega]
  · iexact H

/-! ## The three kinds of chunk -/

/-- A chunk past the count: zeros are written to it. -/
theorem trip_blank (d : Dev nD) (L : grid0.Coords) (k : Fin k0_t2_loop.trips) (q : PosShare TreeShare) (x f : S2048x32x256.Idx → F .f32) (c : BitVec 32)
    (hc : c.toNat < 2 ^ 31) (O : CellTallies nD τ sig (HIx 1)) (W : Waits sig (HIx 1))
    (h1 : Scalar.cmpi .ne (Scalar.extui (Scalar.cmpi .sle c (Scalar.muli (Scf.iv 0#32 1#32 k) 128#32)) : BitVec 32) 0#32 = 1#1)
    (h2 : ¬ Scalar.cmpi .ne (Scalar.extui (Scalar.cmpi .sgt c (Scalar.muli (Scf.iv 0#32 1#32 k) 128#32)) : BitVec 32) 0#32 = 1#1) :
    iprop(held d L q x O W ∗ (outChunk L k).view.loc (tile d L) ↦[(outChunk L k).view.set]{fullShare} f)
      ⊢ wp frame (wpE (defs₀ (F := F)) 𝒱₀ (tile d L) none) Set.univ
          (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32 k ())
          fun _ => iprop(held d L q x O W ∗ (outChunk L k).view.loc (tile d L) ↦[(outChunk L k).view.set]{fullShare} column L c x) := by
  have hle : c.toNat ≤ 128 * k.val := by
    have := (sle_iff _ _).mp h1
    rw [chunk_toInt, BitVec.toInt_eq_toNat_of_lt (by omega)] at this; omega
  have hval : ∀ z, (Memref.whole cc0_scratch1).view.read (Elt F) (fun _ => zero) z = column L c x ((outChunk L k).view.emb z) := fun z => by
    rw [column_emb, if_neg (by omega)]; rfl
  unfold k0_t2_body held
  iintro ⟨⟨Hmw, Hx, ⟨%g, Hg⟩, Hz, Hs3, Hs4, Hs5, %W', %hW', HO⟩, Ho⟩
  sl_exec (disch := exact View.amount_pos _ _ (show 0 < S128x256.numel by decide))
  sl_step
  isplitr [Ho]
  · isplitl [Hmw]; · iexact Hmw
    isplitl [Hx]; · iexact Hx
    isplitl [Hg]; · iexists _; iexact Hg
    isplitl [Hz]; · iexact Hz
    isplitl [Hs3]; · iexact Hs3
    isplitl [Hs4]; · iexact Hs4
    isplitl [Hs5]; · iexact Hs5
    iexists _
    isplitr [HO]
    rotate_left
    · iexact HO
    ipureintro; exact waits_insert hW'
  · iapply (Entails.of_eq (pointsTo_congr (landed f hval))) $$ Ho

/-- A chunk before the count: the input's rows are copied to it. -/
theorem trip_full (d : Dev nD) (L : grid0.Coords) (k : Fin k0_t2_loop.trips) (q : PosShare TreeShare) (x f : S2048x32x256.Idx → F .f32) (c : BitVec 32)
    (hc : c.toNat < 2 ^ 31) (O : CellTallies nD τ sig (HIx 1)) (W : Waits sig (HIx 1))
    (h1 : ¬ Scalar.cmpi .ne (Scalar.extui (Scalar.cmpi .sle c (Scalar.muli (Scf.iv 0#32 1#32 k) 128#32)) : BitVec 32) 0#32 = 1#1)
    (h2 : Scalar.cmpi .ne (Scalar.extui (Scalar.cmpi .sgt c (Scalar.muli (Scf.iv 0#32 1#32 k) 128#32)) : BitVec 32) 0#32 = 1#1)
    (h3 : ¬ Scalar.cmpi .ne (Scalar.extui (Scalar.cmpi .slt c (Scalar.addi (Scalar.muli (Scf.iv 0#32 1#32 k) 128#32) 128#32)) : BitVec 32) 0#32 = 1#1) :
    iprop(held d L q x O W ∗ (outChunk L k).view.loc (tile d L) ↦[(outChunk L k).view.set]{fullShare} f)
      ⊢ wp frame (wpE (defs₀ (F := F)) 𝒱₀ (tile d L) none) Set.univ
          (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32 k ())
          fun _ => iprop(held d L q x O W ∗ (outChunk L k).view.loc (tile d L) ↦[(outChunk L k).view.set]{fullShare} column L c x) := by
  have hle : 128 * k.val + 128 ≤ c.toNat := by
    have := not_lt.mp fun h => h3 ((slt_iff _ _).mpr h)
    rw [next_toInt, BitVec.toInt_eq_toNat_of_lt (by omega)] at this; omega
  have hval (g : S128x256.Idx → F .f32) (z : S128x256.Idx) :
      (Memref.whole cc0_scratch0).view.read (Elt F)
        ((Memref.whole cc0_scratch0).view.write (Elt F) g ((inChunk L k).view.read (Elt F) x) Finset.univ) z
          = column L c x ((outChunk L k).view.emb z) := by
    have hz : (z 0).val < 128 := (z 0).isLt
    rw [column_emb, if_pos (by omega)]
    exact congrFun (View.write_whole_univ _ _ _) z
  unfold k0_t2_body held
  iintro ⟨⟨Hmw, Hx, ⟨%g, Hg⟩, Hz, Hs3, Hs4, Hs5, %W', %hW', HO⟩, Ho⟩
  sl_exec (disch := exact View.amount_pos _ _ (show 0 < S128x256.numel by decide))
  sl_step
  isplitr [Ho]
  · isplitl [Hmw]; · iexact Hmw
    isplitl [Hx]; · iexact Hx
    isplitl [Hg]; · iexists _; iexact Hg
    isplitl [Hz]; · iexact Hz
    isplitl [Hs3]; · iexact Hs3
    isplitl [Hs4]; · iexact Hs4
    isplitl [Hs5]; · iexact Hs5
    iexists _
    isplitr [HO]
    rotate_left
    · iexact HO
    ipureintro; exact waits_insert (waits_insert hW')
  · iapply (Entails.of_eq (pointsTo_congr (landed f (hval g)))) $$ Ho

/-- The chunk the count cuts: the input's rows are fetched, those past the count made zero, and the block written. -/
theorem trip_part (d : Dev nD) (L : grid0.Coords) (k : Fin k0_t2_loop.trips) (q : PosShare TreeShare) (x f : S2048x32x256.Idx → F .f32) (c : BitVec 32)
    (hc : c.toNat < 2 ^ 31) (O : CellTallies nD τ sig (HIx 1)) (W : Waits sig (HIx 1))
    (h1 : ¬ Scalar.cmpi .ne (Scalar.extui (Scalar.cmpi .sle c (Scalar.muli (Scf.iv 0#32 1#32 k) 128#32)) : BitVec 32) 0#32 = 1#1)
    (h2 : Scalar.cmpi .ne (Scalar.extui (Scalar.cmpi .sgt c (Scalar.muli (Scf.iv 0#32 1#32 k) 128#32)) : BitVec 32) 0#32 = 1#1)
    (h3 : Scalar.cmpi .ne (Scalar.extui (Scalar.cmpi .slt c (Scalar.addi (Scalar.muli (Scf.iv 0#32 1#32 k) 128#32) 128#32)) : BitVec 32) 0#32 = 1#1) :
    iprop(held d L q x O W ∗ (outChunk L k).view.loc (tile d L) ↦[(outChunk L k).view.set]{fullShare} f)
      ⊢ wp frame (wpE (defs₀ (F := F)) 𝒱₀ (tile d L) none) Set.univ
          (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32 k ())
          fun _ => iprop(held d L q x O W ∗ (outChunk L k).view.loc (tile d L) ↦[(outChunk L k).view.set]{fullShare} column L c x) := by
  have hlt : 128 * k.val < c.toNat ∧ c.toNat < 128 * k.val + 128 := by
    have ha := (sgt_iff _ _).mp h2
    have hb := (slt_iff _ _).mp h3
    rw [chunk_toInt, BitVec.toInt_eq_toNat_of_lt (by omega)] at ha
    rw [next_toInt, BitVec.toInt_eq_toNat_of_lt (by omega)] at hb
    omega
  unfold k0_t2_body held
  iintro ⟨⟨Hmw, Hx, ⟨%g, Hg⟩, Hz, Hs3, Hs4, Hs5, %W', %hW', HO⟩, Ho⟩
  sl_exec (disch := exact View.amount_pos _ _ (show 0 < S128x256.numel by decide))
  sl_for (masking d L (Scalar.subi c (Scalar.muli (Scf.iv 0#32 1#32 k) 128#32)) ((inChunk L k).view.read (Elt F) x)) $$ [Hg]
  case region =>
    intro k _
    exact mask_step d L _ _ k
  · unfold masking
    iexists _
    isplitr
    rotate_left
    · iexact Hg
    ipureintro
    intro z
    rw [if_neg (by omega)]
    exact congrFun (View.write_whole_univ _ _ _) z
  iintro %_ HI
  unfold masking
  icases HI with ⟨%g', %hg', Hg⟩
  have hval : ∀ z, g' z = column L c x ((outChunk L k).view.emb z) := fun z => by
    have hz : (z 0).val < 128 := (z 0).isLt
    rw [column_emb, hg' z, left_toInt k c hlt.1 hlt.2]
    by_cases h : 128 * k.val + (z 0).val < c.toNat
    · rw [if_neg (by omega), if_pos h]
    · rw [if_pos ⟨hz, by omega⟩, if_neg h]
  sl_exec (disch := exact View.amount_pos _ _ (show 0 < S128x256.numel by decide))
  sl_step
  isplitr [Ho]
  · isplitl [Hmw]; · iexact Hmw
    isplitl [Hx]; · iexact Hx
    isplitl [Hg]; · iexists _; iexact Hg
    isplitl [Hz]; · iexact Hz
    isplitl [Hs3]; · iexact Hs3
    isplitl [Hs4]; · iexact Hs4
    isplitl [Hs5]; · iexact Hs5
    iexists _
    isplitr [HO]
    rotate_left
    · iexact HO
    ipureintro; exact waits_insert (waits_insert hW')
  · iapply (Entails.of_eq (pointsTo_congr (landed f hval))) $$ Ho

end Cert.KernelIdeal.Stack

end
-- ==== Proof.KernelIdeal.Column.lean ====
/-
  A tile's loop over the sixteen chunks of its output column, the column's elements split into those written and those
  still to be written.
-/
module

public import proofs.«01_k».proof.Proof.KernelIdeal.Chunk

@[expose] public section

noncomputable section

namespace Cert.KernelIdeal.Stack

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

variable [FloatOps F]

/-- A trip writes its chunk of the column, whatever the chunk's kind. -/
theorem trip (d : Dev nD) (L : grid0.Coords) (k : Fin k0_t2_loop.trips) (q : PosShare TreeShare) (x f : S2048x32x256.Idx → F .f32) (c : BitVec 32)
    (hc : c.toNat < 2 ^ 31) (O : CellTallies nD τ sig (HIx 1)) (W : Waits sig (HIx 1)) :
    iprop(held d L q x O W ∗ (outChunk L k).view.loc (tile d L) ↦[(outChunk L k).view.set]{fullShare} f)
      ⊢ wp frame (wpE (defs₀ (F := F)) 𝒱₀ (tile d L) none) Set.univ
          (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32 k ())
          fun _ => iprop(held d L q x O W ∗ (outChunk L k).view.loc (tile d L) ↦[(outChunk L k).view.set]{fullShare} column L c x) := by
  by_cases h1 : Scalar.cmpi .ne (Scalar.extui (Scalar.cmpi .sle c (Scalar.muli (Scf.iv 0#32 1#32 k) 128#32)) : BitVec 32) 0#32 = 1#1
  · exact trip_blank d L k q x f c hc O W h1 fun h => absurd ((sgt_iff _ _).mp h) (not_lt.mpr ((sle_iff _ _).mp h1))
  have h2 := (sgt_iff _ _).mpr (not_le.mp fun h => h1 ((sle_iff c _).mpr h))
  by_cases h3 : Scalar.cmpi .ne (Scalar.extui (Scalar.cmpi .slt c (Scalar.addi (Scalar.muli (Scf.iv 0#32 1#32 k) 128#32) 128#32)) : BitVec 32) 0#32 = 1#1
  · exact trip_part d L k q x f c hc O W h1 h2 h3
  · exact trip_full d L k q x f c hc O W h1 h2 h3

/-! ## The column's elements -/

/-- The rows of the tile's output column below `a`, and those from `a` on. -/
def colBelow (L : grid0.Coords) (a : ℕ) : Finset S2048x32x256.Idx := Finset.univ.filter fun y => (y 1).val = (outCol L).val ∧ (y 0).val < a
/-- The rows of the tile's output column from `a` on. -/
def colFrom (L : grid0.Coords) (a : ℕ) : Finset S2048x32x256.Idx := Finset.univ.filter fun y => (y 1).val = (outCol L).val ∧ a ≤ (y 0).val
/-- The tile's whole output column. -/
def col (L : grid0.Coords) : Finset S2048x32x256.Idx := Finset.univ.filter fun y => (y 1).val = (outCol L).val

/-- What it is to lie in each of the three sets. -/
theorem mem_colBelow {L : grid0.Coords} {a : ℕ} {y : S2048x32x256.Idx} : y ∈ colBelow L a ↔ (y 1).val = (outCol L).val ∧ (y 0).val < a := by simp [colBelow]
theorem mem_colFrom {L : grid0.Coords} {a : ℕ} {y : S2048x32x256.Idx} : y ∈ colFrom L a ↔ (y 1).val = (outCol L).val ∧ a ≤ (y 0).val := by simp [colFrom]
theorem mem_col {L : grid0.Coords} {y : S2048x32x256.Idx} : y ∈ col L ↔ (y 1).val = (outCol L).val := by simp [col]

/-- What it is to lie in a chunk. -/
theorem mem_outChunk {L : grid0.Coords} {k : Fin k0_t2_loop.trips} {y : S2048x32x256.Idx} :
    y ∈ (outChunk L k).view.set ↔ (y 1).val = (outCol L).val ∧ 128 * k.val ≤ (y 0).val ∧ (y 0).val < 128 * k.val + 128 := by
  constructor
  · intro h
    obtain ⟨z, -, rfl⟩ := Finset.mem_map.mp h
    have hz : (z 0).val < 128 := (z 0).isLt
    rw [outChunk_emb]
    exact ⟨rfl, Nat.le_add_right _ _, Nat.add_lt_add_left hz _⟩
  · rintro ⟨h1, h2, h3⟩
    refine Finset.mem_map.mpr ⟨ix2 ⟨(y 0).val - 128 * k.val, by omega⟩ (y 2), Finset.mem_univ _, ?_⟩
    rw [outChunk_emb]
    funext a
    match a with
    | 0 => exact Fin.ext (show 128 * k.val + ((y 0).val - 128 * k.val) = (y 0).val by omega)
    | 1 => exact Fin.ext h1.symm
    | 2 => rfl

/-- The rows from a chunk's first on are the chunk's and those after it. -/
theorem colFrom_chunk (L : grid0.Coords) (k : Fin k0_t2_loop.trips) : colFrom L (128 * k.val) = (outChunk L k).view.set ∪ colFrom L (128 * (k.val + 1)) := by
  ext y
  rw [Finset.mem_union, mem_colFrom, mem_outChunk, mem_colFrom]
  constructor
  · rintro ⟨h1, h2⟩
    by_cases h : (y 0).val < 128 * k.val + 128
    · exact .inl ⟨h1, h2, h⟩
    · exact .inr ⟨h1, by omega⟩
  · rintro (⟨h1, h2, h3⟩ | ⟨h1, h2⟩)
    · exact ⟨h1, h2⟩
    · exact ⟨h1, by omega⟩

/-- The rows below the next chunk are those below this one and this one's. -/
theorem colBelow_chunk (L : grid0.Coords) (k : Fin k0_t2_loop.trips) : colBelow L (128 * (k.val + 1)) = colBelow L (128 * k.val) ∪ (outChunk L k).view.set := by
  ext y
  rw [Finset.mem_union, mem_colBelow, mem_outChunk, mem_colBelow]
  constructor
  · rintro ⟨h1, h2⟩
    by_cases h : (y 0).val < 128 * k.val
    · exact .inl ⟨h1, h⟩
    · exact .inr ⟨h1, by omega, by omega⟩
  · rintro (⟨h1, h2⟩ | ⟨h1, h2, h3⟩)
    · exact ⟨h1, by omega⟩
    · exact ⟨h1, by omega⟩

/-- A chunk shares no row with what follows it, nor with what precedes it. -/
theorem chunk_disjoint_from (L : grid0.Coords) (k : Fin k0_t2_loop.trips) : Disjoint (outChunk L k).view.set (colFrom L (128 * (k.val + 1))) :=
  Finset.disjoint_left.mpr fun y h1 h2 => by
    have h1 := (mem_outChunk.mp h1).2.2; have h2 := (mem_colFrom.mp h2).2; omega
theorem below_disjoint_chunk (L : grid0.Coords) (k : Fin k0_t2_loop.trips) : Disjoint (colBelow L (128 * k.val)) (outChunk L k).view.set :=
  Finset.disjoint_left.mpr fun y h1 h2 => by
    have h1 := (mem_colBelow.mp h1).2; have h2 := (mem_outChunk.mp h2).2.1; omega

/-- Before the first chunk the whole column is to be done and nothing is done; after the last all of it is. -/
theorem colFrom_zero (L : grid0.Coords) : colFrom L (128 * 0) = col L := by
  ext y; rw [mem_colFrom, mem_col]; exact ⟨fun h => h.1, fun h => ⟨h, Nat.zero_le _⟩⟩
theorem colBelow_zero (L : grid0.Coords) : colBelow L (128 * 0) = ∅ := by
  ext y; rw [mem_colBelow]; exact ⟨fun h => absurd h.2 (Nat.not_lt_zero _), fun h => absurd h (Finset.notMem_empty _)⟩
theorem colBelow_all (L : grid0.Coords) : colBelow L (128 * 16) = col L := by
  ext y; rw [mem_colBelow, mem_col]; exact ⟨fun h => h.1, fun h => ⟨h, (y 0).isLt⟩⟩

/-! ## The loop -/

/-- Before trip `k`: the chunks below `k` at the column's values, the rest as found. -/
def columnInv (d : Dev nD) (L : grid0.Coords) (q : PosShare TreeShare) (x f : S2048x32x256.Idx → F .f32) (c : BitVec 32)
    (O : CellTallies nD τ sig (HIx 1)) (W : Waits sig (HIx 1)) (k : ℕ) (_ : Unit) : sProp (MM F) :=
  iprop(held d L q x O W
    ∗ ((Memref.whole main_v1_0_scv).view.loc (tile d L) ↦[colBelow L (128 * k)]{fullShare} column L c x)
    ∗ ((Memref.whole main_v1_0_scv).view.loc (tile d L) ↦[colFrom L (128 * k)]{fullShare} f))

/-- One trip of the chunk loop takes the state before trip `k` to the state before trip `k + 1`. -/
theorem column_step (d : Dev nD) (L : grid0.Coords) (k : Fin k0_t2_loop.trips) (q : PosShare TreeShare) (x f : S2048x32x256.Idx → F .f32) (c : BitVec 32)
    (hc : c.toNat < 2 ^ 31) (O : CellTallies nD τ sig (HIx 1)) (W : Waits sig (HIx 1)) :
    columnInv d L q x f c O W k.val ()
      ⊢ wp frame (wpE (defs₀ (F := F)) 𝒱₀ (tile d L) none) Set.univ
          (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32 k ())
          (columnInv d L q x f c O W (k.val + 1)) := by
  unfold columnInv
  rw [colFrom_chunk, colBelow_chunk]
  iintro ⟨Hh, Hb, Hf⟩
  ihave Hf' := (pointsTo_union (chunk_disjoint_from L k)).1 $$ Hf
  icases Hf' with ⟨Hc, Hf⟩
  iapply (wp_wand_r Idealize.ShloMosaic.frame (wpE (defs₀ (F := F)) 𝒱₀ (tile d L) none) Set.univ)
  isplitl [Hh Hc]
  · iapply (trip d L k q x f c hc O W) $$ [Hh Hc]
    isplitl [Hh]; · iexact Hh
    iexact Hc
  iintro %_ ⟨Hh, Hc⟩
  isplitl [Hh]; · iexact Hh
  isplitl [Hb Hc]
  · iapply (pointsTo_union (below_disjoint_chunk L k)).2 $$ [Hb Hc]
    isplitl [Hb]; · iexact Hb
    iexact Hc
  · iexact Hf

end Cert.KernelIdeal.Stack

end
-- ==== Proof.KernelIdeal.Tile.lean ====
/-
  A tile's run from its launch to its end: the lengths fetched, the halved lengths written by tile (0, 0), the zero block
  filled, and the column's chunks.
-/
module

public import proofs.«01_k».proof.Proof.KernelIdeal.Column
public import Idealize.ShloMosaic.Lib.Pipeline.Value

@[expose] public section

noncomputable section

namespace Cert.KernelIdeal.Stack

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic

variable {F : FTy → Type}

variable [FloatOps F]

/-! ## The zeroing loop -/

/-- The zero block before trip `k`: its rows below `k` zero. -/
def zeroing (d : Dev nD) (L : grid0.Coords) (k : ℕ) (_ : Unit) : sProp (MM F) :=
  iprop(∃ f : S128x256.Idx → F .f32, ⌜∀ z, (z 0).val < k → f z = zero⌝ ∗ (Memref.whole cc0_scratch1).view.loc (tile d L) ↦{fullShare} f)

/-- One trip of the zeroing loop makes row `k` zero. -/
theorem zero_step (d : Dev nD) (L : grid0.Coords) (k : Fin k0_t1_loop.trips) :
    zeroing (F := F) d L k.val ()
      ⊢ wp frame (wpE (defs₀ (F := F)) 𝒱₀ (tile d L) none) Set.univ
          (k0_t1_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 k ())
          (zeroing d L (k.val + 1)) := by
  unfold zeroing
  iintro ⟨%f, %hf, H⟩
  iapply ((zero_trip d L k f).trans (wp_mono frame _ _ fun _ => ?_)) $$ H
  iintro ⟨%f', %hf', H⟩
  iexists f'
  isplitr
  · ipureintro
    intro z hz
    rw [hf' z]
    split
    · rfl
    · exact hf z (by omega)
  · iexact H

/-! ## The lengths -/

/-- The lengths scratch once the lengths were copied to both its halves. -/
abbrev doubled (l : S16.Idx → BitVec 32) (f : S32.Idx → BitVec 32) : S32.Idx → BitVec 32 :=
  (Memref.whole cc0_scratch2).view.writes (Elt F) f
    [⟨Rect.unit (s := S32) ![16] S16.size inb_S32_S16_16, l⟩, ⟨Rect.unit (s := S32) ![0] S16.size inb_S32_S16_0, l⟩]

/-- Each half holds the lengths. -/
theorem doubled_apply (l : S16.Idx → BitVec 32) (f : S32.Idx → BitVec 32) (y : S32.Idx) :
    doubled (F := F) l f y = l (ix1 ⟨(y 0).val % 16, Nat.mod_lt _ (by decide)⟩) := by
  refine View.read_writes_apply_of_pieces (Val := Elt F) (v := (Memref.whole cc0_scratch2).view) f
    (fun y => l (ix1 ⟨(y 0).val % 16, Nat.mod_lt _ (by decide)⟩))
    [⟨Rect.unit (s := S32) ![16] S16.size inb_S32_S16_16, l⟩, ⟨Rect.unit (s := S32) ![0] S16.size inb_S32_S16_0, l⟩] ?_ y ?_
  · intro p hp
    rcases List.mem_cons.mp hp with rfl | hp
    · intro t
      refine congrArg l (funext fun a => ?_)
      match a with
      | 0 => exact Fin.ext (show (t 0).val = (16 + 1 * (t 0).val) % 16 by have : (t 0).val < 16 := (t 0).isLt; omega)
    · rw [List.mem_singleton] at hp
      subst hp
      intro t
      refine congrArg l (funext fun a => ?_)
      match a with
      | 0 => exact Fin.ext (show (t 0).val = (0 + 1 * (t 0).val) % 16 by have : (t 0).val < 16 := (t 0).isLt; omega)
  · have hy : (y 0).val < 32 := (y 0).isLt
    by_cases h : (y 0).val < 16
    · refine ⟨_, List.mem_cons_of_mem _ (List.mem_singleton_self _), ?_⟩
      refine (Rect.mem_set_unit (s := S32) (off := ![0]) (size := S16.size) (i := y) (inb := inb_S32_S16_0)).mpr fun a => ?_
      match a with
      | 0 => exact ⟨Nat.zero_le _, h⟩
    · refine ⟨_, List.mem_cons_self, ?_⟩
      refine (Rect.mem_set_unit (s := S32) (off := ![16]) (size := S16.size) (i := y) (inb := inb_S32_S16_16)).mpr fun a => ?_
      match a with
      | 0 => exact ⟨not_lt.mp h, hy⟩

/-- The tile's count, as the kernel computes it from the sixteen words it loads at its own number. -/
theorem count_eq (L : grid0.Coords) (l : S16.Idx → BitVec 32) (f : S32.Idx → BitVec 32) :
    Scalar.shrui (Scalar.addi (extractAt ![0] (k0_pay27 (F := F) ((Memref.whole cc0_scratch2).view.readAt (Elt F)
      (Rect.unit (s := S32) (k0_off1 L) S16.size (k0_off1_inb L)).toLoadRect (doubled (F := F) l f))) inpos_S1_p0)
        (Scalar.subi 1#32 (BitVec.ofNat 32 (L 0).val))) 1#32 = count (l (ix1 (L 1))) (L 0).val := by
  have h (v : S16.Idx → BitVec 32) : extractAt ![0] (k0_pay27 (F := F) v) inpos_S1_p0 = v (ix1 (0 : Fin 16)) := by
    unfold k0_pay27
    rw [Idealize.ShloMosaic.shapeCast_self]
    refine congrArg v (funext fun a => ?_)
    match a with
    | 0 => rfl
  have hi : (L 1).val < 16 := (L 1).isLt
  have hw : (Memref.whole cc0_scratch2).view.readAt (Elt F) (Rect.unit (s := S32) (k0_off1 L) S16.size (k0_off1_inb L)).toLoadRect
      (doubled (F := F) l f) (ix1 (0 : Fin 16)) = l (ix1 (L 1)) := by
    rw [View.readAt_apply]
    refine (doubled_apply (F := F) l f _).trans ?_
    refine congrArg l (funext fun a => ?_)
    match a with
    | 0 =>
      refine Fin.ext ?_
      show (k0_off1 L 0 + 1 * 0) % 16 = (L 1).val
      rw [k0_off1_eq]
      show ((L 1).val + 1 * 0) % 16 = (L 1).val
      omega
  rw [h, hw]; rfl

/-- What tile (0, 0) loads from the first half: the lengths. -/
theorem lengths_eq (l : S16.Idx → BitVec 32) (f : S32.Idx → BitVec 32) :
    (Memref.whole cc0_scratch2).view.readAt (Elt F) (Rect.unit (s := S32) ![0] S16.size inb_S32_S16_0).toLoadRect
      (doubled (F := F) l f) = l := by
  funext t
  rw [View.readAt_apply]
  refine (doubled_apply (F := F) l f _).trans ?_
  refine congrArg l (funext fun a => ?_)
  match a with
  | 0 =>
    refine Fin.ext ?_
    show (0 + 1 * (t 0).val) % 16 = (t 0).val
    have : (t 0).val < 16 := (t 0).isLt
    omega

/-- What tile (0, 0) writes to the second result. -/
theorem halved_eq (l v : S16.Idx → BitVec 32) (hv : v = l) (f3 fh : S16.Idx → BitVec 32) :
    (Memref.whole main_v1_1_scv).view.write (Elt F) fh ((Memref.whole cc0_scratch3).view.read (Elt F)
      ((Memref.whole cc0_scratch3).view.writes (Elt F) f3
        [⟨Rect.unit (s := S16) ![0] S16.size inb_S16_S16_0, k0_pay28 (F := F) v⟩])) Finset.univ = halved l := by
  subst hv
  rw [View.write_whole_univ]
  funext y
  have hk (t : S16.Idx) : k0_pay28 (F := F) v t = halved v t := by
    unfold k0_pay28
    rw [Idealize.ShloMosaic.shapeCast_self, Idealize.ShloMosaic.shapeCast_self]
    rfl
  refine View.read_writes_apply_of_pieces (Val := Elt F) (v := (Memref.whole cc0_scratch3).view) f3 (halved v)
    [⟨Rect.unit (s := S16) ![0] S16.size inb_S16_S16_0, k0_pay28 (F := F) v⟩] ?_ y ?_
  · intro p hp
    rw [List.mem_singleton] at hp
    subst hp
    intro t
    refine (hk t).trans (congrArg (halved v) (funext fun a => ?_))
    match a with
    | 0 => exact Fin.ext (show (t 0).val = 0 + 1 * (t 0).val by omega)
  · refine ⟨_, List.mem_singleton_self _, (Rect.mem_set_unit (s := S16) (off := ![0]) (size := S16.size) (i := y) (inb := inb_S16_S16_0)).mpr fun a => ?_⟩
    match a with
    | 0 => exact ⟨Nat.zero_le _, (y 0).isLt⟩

/-! ## Up to the chunks -/

/-- The tile's scratches and semaphores the part before the chunks uses, at any contents; -/
def scratches (d : Dev nD) (L : grid0.Coords) : sProp (MM F) :=
  iprop((∃ f, (Memref.whole cc0_scratch1).view.loc (tile d L) ↦{fullShare} f)
    ∗ (∃ f, (Memref.whole cc0_scratch2).view.loc (tile d L) ↦{fullShare} f)
    ∗ (∃ f, (Memref.whole cc0_scratch3).view.loc (tile d L) ↦{fullShare} f)
    ∗ semVal (tile d L, SemLoc.dma cc0_scoped0.sem) 0
    ∗ semVal (tile d L, SemLoc.dma cc0_scoped1.sem) 0
    ∗ semVal (tile d L, SemLoc.dma cc0_scoped2.sem) 0)

/-- and after it, the zero block zero. -/
def cleared (d : Dev nD) (L : grid0.Coords) : sProp (MM F) :=
  iprop(((Memref.whole cc0_scratch1).view.loc (tile d L) ↦{fullShare} fun _ => zero)
    ∗ (∃ f, (Memref.whole cc0_scratch2).view.loc (tile d L) ↦{fullShare} f)
    ∗ (∃ f, (Memref.whole cc0_scratch3).view.loc (tile d L) ↦{fullShare} f)
    ∗ semVal (tile d L, SemLoc.dma cc0_scoped0.sem) 0
    ∗ semVal (tile d L, SemLoc.dma cc0_scoped1.sem) 0
    ∗ semVal (tile d L, SemLoc.dma cc0_scoped2.sem) 0)

/-- A tile other than the first, up to the chunks: the lengths fetched twice, the zero block made, the tile's count read. -/
theorem prologue_other (d : Dev nD) (L : grid0.Coords) (q : PosShare TreeShare) (l : S16.Idx → BitVec 32)
    (O : CellTallies nD τ sig (HIx 1)) (W : Waits sig (HIx 1))
    (h1 : ¬ Scalar.cmpi .ne (Scalar.extui (Scalar.andi (Scalar.cmpi .eq (BitVec.ofNat 32 (L 1).val) 0#32)
      (Scalar.cmpi .eq (BitVec.ofNat 32 (L 0).val) 0#32)) : BitVec 32) 0#32 = 1#1) :
    iprop(Transfers.MayWaits (tile d L) (none : HIx 1) O
        ∗ ((Memref.whole main_arg1_scv).view.loc (tile d L) ↦{q} l)
        ∗ scratches d L ∗ owes (tile d L) O W)
      ⊢ wp frame (wpE (defs₀ (F := F)) 𝒱₀ (tile d L) none) Set.univ
          (k0_part3 L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun r => iprop(⌜r = ⟨count (l (ix1 (L 1))) (L 0).val, k0_pay29, 0#32⟩⌝
            ∗ Transfers.MayWaits (tile d L) (none : HIx 1) O
            ∗ ((Memref.whole main_arg1_scv).view.loc (tile d L) ↦{q} l)
            ∗ cleared d L ∗ (∃ W', ⌜∀ p ∈ W', p ∈ W ∨ p.2 = none⌝ ∗ owes (tile d L) O W')) := by
  rw [k0_part3_eq_skeleton]; unfold k0_part3_skel scratches cleared
  iintro ⟨Hmw, Hl, ⟨⟨%f1, Hz⟩, ⟨%f2, Hn⟩, ⟨%f3, Hb⟩, Hs0, Hs1, Hs2⟩, HO⟩
  sl_exec
  sl_for (zeroing d L) $$ [Hz]
  case region =>
    intro k _
    exact zero_step d L k
  · unfold zeroing
    iexists f1
    isplitr
    rotate_left
    · iexact Hz
    ipureintro
    exact fun z h => absurd h (Nat.not_lt_zero _)
  iintro %_ HI
  unfold zeroing
  icases HI with ⟨%g, %hg, Hz⟩
  obtain rfl : g = fun _ => zero := funext fun z => hg z (z 0).isLt
  sl_exec
  sl_step
  isplitr; · ipureintro; exact congrArg (fun v => (⟨v, k0_pay29, 0#32⟩ : Σ' (_ : BitVec 32) (_ : FVec F S16 .f32), BitVec 32)) (count_eq L l _)
  isplitl [Hmw]; · iexact Hmw
  isplitl [Hl]; · iexact Hl
  isplitl [Hz Hn Hb Hs0 Hs1 Hs2]
  · isplitl [Hz]; · iexact Hz
    isplitl [Hn]; · iexists _; iexact Hn
    isplitl [Hb]; · iexists _; iexact Hb
    isplitl [Hs0]; · iexact Hs0
    isplitl [Hs1]; · iexact Hs1
    iexact Hs2
  iexists _
  isplitr [HO]
  rotate_left
  · iexact HO
  ipureintro; exact waits_insert (waits_insert fun p hp => .inl hp)

/-- The first tile, up to the chunks: as the others, with the halved lengths written too. -/
theorem prologue_first (d : Dev nD) (L : grid0.Coords) (q : PosShare TreeShare) (l : S16.Idx → BitVec 32) (fh : S16.Idx → BitVec 32)
    (O : CellTallies nD τ sig (HIx 1)) (W : Waits sig (HIx 1))
    (h1 : Scalar.cmpi .ne (Scalar.extui (Scalar.andi (Scalar.cmpi .eq (BitVec.ofNat 32 (L 1).val) 0#32)
      (Scalar.cmpi .eq (BitVec.ofNat 32 (L 0).val) 0#32)) : BitVec 32) 0#32 = 1#1) :
    iprop(Transfers.MayWaits (tile d L) (none : HIx 1) O
        ∗ ((Memref.whole main_arg1_scv).view.loc (tile d L) ↦{q} l)
        ∗ scratches d L ∗ owes (tile d L) O W
        ∗ ((Memref.whole main_v1_1_scv).view.loc (tile d L) ↦{fullShare} fh))
      ⊢ wp frame (wpE (defs₀ (F := F)) 𝒱₀ (tile d L) none) Set.univ
          (k0_part3 L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun r => iprop(⌜r = ⟨count (l (ix1 (L 1))) (L 0).val, k0_pay29, 0#32⟩⌝
            ∗ Transfers.MayWaits (tile d L) (none : HIx 1) O
            ∗ ((Memref.whole main_arg1_scv).view.loc (tile d L) ↦{q} l)
            ∗ cleared d L ∗ (∃ W', ⌜∀ p ∈ W', p ∈ W ∨ p.2 = none⌝ ∗ owes (tile d L) O W')
            ∗ ((Memref.whole main_v1_1_scv).view.loc (tile d L) ↦{fullShare} halved l)) := by
  rw [k0_part3_eq_skeleton]; unfold k0_part3_skel scratches cleared
  iintro ⟨Hmw, Hl, ⟨⟨%f1, Hz⟩, ⟨%f2, Hn⟩, ⟨%f3, Hb⟩, Hs0, Hs1, Hs2⟩, HO, Hh⟩
  sl_exec
  sl_for (zeroing d L) $$ [Hz]
  case region =>
    intro k _
    exact zero_step d L k
  · unfold zeroing
    iexists f1
    isplitr
    rotate_left
    · iexact Hz
    ipureintro
    exact fun z h => absurd h (Nat.not_lt_zero _)
  iintro %_ HI
  unfold zeroing
  icases HI with ⟨%g, %hg, Hz⟩
  obtain rfl : g = fun _ => zero := funext fun z => hg z (z 0).isLt
  sl_exec
  sl_step
  isplitr; · ipureintro; exact congrArg (fun v => (⟨v, k0_pay29, 0#32⟩ : Σ' (_ : BitVec 32) (_ : FVec F S16 .f32), BitVec 32)) (count_eq L l _)
  isplitl [Hmw]; · iexact Hmw
  isplitl [Hl]; · iexact Hl
  isplitl [Hz Hn Hb Hs0 Hs1 Hs2]
  · isplitl [Hz]; · iexact Hz
    isplitl [Hn]; · iexists _; iexact Hn
    isplitl [Hb]; · iexists _; iexact Hb
    isplitl [Hs0]; · iexact Hs0
    isplitl [Hs1]; · iexact Hs1
    iexact Hs2
  isplitl [HO]
  · iexists _
    isplitr [HO]
    rotate_left
    · iexact HO
    ipureintro; exact waits_insert (waits_insert (waits_insert fun p hp => .inl hp))
  · have hl : prologue_first.sl.v20 (F := F) l = l := by
      delta prologue_first.sl.v20
      exact lengths_eq l _
    have h4 : (Memref.whole main_v1_1_scv).view.write (Elt F) fh (prologue_first.sl.dma4 d L l f3) Finset.univ = halved l :=
      halved_eq l _ hl f3 fh
    iapply (Entails.of_eq (congrArg (fun v => ((Memref.whole main_v1_1_scv).view.loc (tile d L) ↦{fullShare} v : sProp (MM F))) h4)) $$ Hh

/-- Which tile writes the second result: the one at core 0, subcore 0. -/
theorem first_iff (L : grid0.Coords) :
    Scalar.cmpi .ne (Scalar.extui (Scalar.andi (Scalar.cmpi .eq (BitVec.ofNat 32 (L 1).val) 0#32)
      (Scalar.cmpi .eq (BitVec.ofNat 32 (L 0).val) 0#32)) : BitVec 32) 0#32 = 1#1 ↔ (L 0).val = 0 ∧ (L 1).val = 0 := by
  have h : ∀ (b : Fin 2) (a : Fin 16), Scalar.cmpi .ne (Scalar.extui (Scalar.andi (Scalar.cmpi .eq (BitVec.ofNat 32 a.val) 0#32)
      (Scalar.cmpi .eq (BitVec.ofNat 32 b.val) 0#32)) : BitVec 32) 0#32 = 1#1 ↔ b.val = 0 ∧ a.val = 0 := by decide
  exact h (L 0) (L 1)

/-- `P` for the tile at core 0, subcore 0; nothing for the others. -/
def first (L : grid0.Coords) (P : sProp (MM F)) : sProp (MM F) :=
  if (L 0).val = 0 then (if (L 1).val = 0 then P else iprop(emp)) else iprop(emp)

omit [FloatOps F] in
/-- For the first tile it is `P`, -/
theorem first_pos {L : grid0.Coords} (h : (L 0).val = 0 ∧ (L 1).val = 0) (P : sProp (MM F)) : first L P = P := by
  unfold first; rw [if_pos h.1, if_pos h.2]

omit [FloatOps F] in
/-- for every other tile it is nothing. -/
theorem first_neg {L : grid0.Coords} (h : ¬ ((L 0).val = 0 ∧ (L 1).val = 0)) (P : sProp (MM F)) : first L P = iprop(emp) := by
  unfold first
  split
  · rename_i h0
    rw [if_neg fun h1 => h ⟨h0, h1⟩]
  · rfl

/-- Any tile's part before the chunks. -/
theorem prologue (d : Dev nD) (L : grid0.Coords) (q : PosShare TreeShare) (l : S16.Idx → BitVec 32) (fh : S16.Idx → BitVec 32)
    (O : CellTallies nD τ sig (HIx 1)) (W : Waits sig (HIx 1)) :
    iprop(Transfers.MayWaits (tile d L) (none : HIx 1) O
        ∗ ((Memref.whole main_arg1_scv).view.loc (tile d L) ↦{q} l)
        ∗ scratches d L ∗ owes (tile d L) O W
        ∗ first L ((Memref.whole main_v1_1_scv).view.loc (tile d L) ↦{fullShare} fh))
      ⊢ wp frame (wpE (defs₀ (F := F)) 𝒱₀ (tile d L) none) Set.univ
          (k0_part3 L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun r => iprop(⌜r = ⟨count (l (ix1 (L 1))) (L 0).val, k0_pay29, 0#32⟩⌝
            ∗ Transfers.MayWaits (tile d L) (none : HIx 1) O
            ∗ ((Memref.whole main_arg1_scv).view.loc (tile d L) ↦{q} l)
            ∗ cleared d L ∗ (∃ W', ⌜∀ p ∈ W', p ∈ W ∨ p.2 = none⌝ ∗ owes (tile d L) O W')
            ∗ first L ((Memref.whole main_v1_1_scv).view.loc (tile d L) ↦{fullShare} halved l)) := by
  by_cases h : (L 0).val = 0 ∧ (L 1).val = 0
  · simp only [first_pos h]
    exact prologue_first d L q l fh O W ((first_iff L).mpr h)
  · simp only [first_neg h]
    iintro ⟨Hmw, Hl, Hs, HO, -⟩
    iapply ((prologue_other d L q l O W (fun h1 => h ((first_iff L).mp h1))).trans (wp_mono frame _ _ fun r => ?_)) $$ [Hmw Hl Hs HO]
    · iintro ⟨Hr, Hmw, Hl, Hs, HO⟩
      isplitl [Hr]; · iexact Hr
      isplitl [Hmw]; · iexact Hmw
      isplitl [Hl]; · iexact Hl
      isplitl [Hs]; · iexact Hs
      isplitl [HO]; · iexact HO
      iempintro
    · isplitl [Hmw]; · iexact Hmw
      isplitl [Hl]; · iexact Hl
      isplitl [Hs]; · iexact Hs
      iexact HO

/-! ## The chunks -/

/-- The tile's sixteen chunks: its column at any contents becomes the column of frames and zeros. -/
theorem chunks (d : Dev nD) (L : grid0.Coords) (q : PosShare TreeShare) (x f : S2048x32x256.Idx → F .f32) (c : BitVec 32)
    (hc : c.toNat < 2 ^ 31) (O : CellTallies nD τ sig (HIx 1)) (W : Waits sig (HIx 1)) :
    iprop(held d L q x O W ∗ ((Memref.whole main_v1_0_scv).view.loc (tile d L) ↦[col L]{fullShare} f))
      ⊢ wp frame (wpE (defs₀ (F := F)) 𝒱₀ (tile d L) none) Set.univ
          (Scf.Loop.for k0_t2_loop k0_t2_ok ⟨⟩ (k0_t2_body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5 c k0_pay29 0#32) >>= fun _ => pure PUnit.unit)
          fun _ => iprop(held d L q x O W ∗ ((Memref.whole main_v1_0_scv).view.loc (tile d L) ↦[col L]{fullShare} column L c x)) := by
  iintro ⟨Hh, Ho⟩
  sl_for (columnInv d L q x f c O W) $$ [Hh Ho]
  case region =>
    intro k _
    exact column_step d L k q x f c hc O W
  · unfold columnInv
    rw [colBelow_zero, colFrom_zero, pointsTo_empty]
    isplitl [Hh]; · iexact Hh
    isplitr; · iempintro
    iexact Ho
  iintro %_ HI
  unfold columnInv
  icases HI with ⟨Hh, Ho, -⟩
  sl_step
  have hall : colBelow L (128 * Scf.trips k0_t2_loop.lb k0_t2_loop.ub k0_t2_loop.st) = col L := by
    rw [show Scf.trips k0_t2_loop.lb k0_t2_loop.ub k0_t2_loop.st = 16 by decide]
    exact colBelow_all L
  isplitl [Hh]; · iexact Hh
  iapply (Entails.of_eq (congrArg (fun s => ((Memref.whole main_v1_0_scv).view.loc (tile d L) ↦[s]{fullShare} column L c x : sProp (MM F))) hall)) $$ Ho

/-! ## What a tile is given, and gives back -/

/-- Each tile's share of what every tile reads: the whole dealt to the two cores, a core's part dealt to its sixteen
    subcores. -/
def tileShare (L : grid0.Coords) : PosShare TreeShare :=
  Transfers.dealOf (Transfers.dealOf fullShare (Finset.univ : Finset (Fin 2)) (L 0)) (Finset.univ : Finset (Fin 16)) (L 1)

/-- A share of the regrouped input and of the lengths, the tile's column of the output, and for the first tile the halved
    lengths' array. -/
def given (d : Dev nD) (L : grid0.Coords) (x f : S2048x32x256.Idx → F .f32) (l h : S16.Idx → BitVec 32) : sProp (MM F) :=
  iprop((xLoc d ↦{tileShare L} x) ∗ (lLoc d ↦{tileShare L} l) ∗ (oLoc d ↦[col L]{fullShare} f) ∗ first L (hLoc d ↦{fullShare} h))

/-- A tile's count is below 2^31: it was shifted right. -/
theorem count_lt (w : BitVec 32) (j : ℕ) : (count w j).toNat < 2 ^ 31 := by
  show ((Scalar.addi w (Scalar.subi 1#32 (BitVec.ofNat 32 j))) >>> (1#32 : BitVec 32)).toNat < _
  have h := (Scalar.addi w (Scalar.subi 1#32 (BitVec.ofNat 32 j))).isLt
  rw [BitVec.ushiftRight_eq', BitVec.toNat_ushiftRight, Nat.shiftRight_eq_div_pow]
  show _ / 2 ^ 1 < _
  omega

/-- The tile's column of the whole result. -/
theorem column_stacked (L : grid0.Coords) (l : S16.Idx → BitVec 32) (x : S2048x32x256.Idx → F .f32) :
    ∀ y ∈ col L, column L (count (l (ix1 (L 1))) (L 0).val) x y = stacked l x y := by
  intro y hy
  have h0 := core_lt L
  have hq : (y 1).val = 2 * (L 1).val + (L 0).val := mem_col.mp hy
  have key (a b : ℕ) (ha : a < 2) (hb : b < 16) (e0 : a = (L 0).val) (e1 : b = (L 1).val) :
      column L (count (l (ix1 (L 1))) (L 0).val) x y
        = if (y 0).val < (count (l (ix1 ⟨b, hb⟩)) a).toNat then x (ix3 (y 0) (inCol a b ha hb) (y 2)) else zero := by
    subst e0 e1; rfl
  exact key ((y 1).val % 2) ((y 1).val / 2) (by omega) (by have := sub_lt L; omega) (by omega) (by omega)

section Own

variable (d : Dev nD) (L : grid0.Coords)

/-- The tile's semaphore `s`. -/
def cell : DmaSem sig ↪ GSem nD τ sig := ⟨fun s => (tile d L, .dma s), fun _ _ e => SemLoc.dma.inj (Prod.mk.inj e).2⟩
/-- The tile's buffer `b`. -/
def mine : Ref sig .scVector ↪ DevRef τ sig := ⟨(Proc.scVector (cV L) (jV L)).devRef, Proc.devRef_injective _⟩

/-- The kernel's transfer semaphores. -/
def sems : Finset (DmaSem sig) := {cc0_scoped0.sem, cc0_scoped1.sem, cc0_scoped2.sem, cc0_scoped3.sem, cc0_scoped4.sem, cc0_scoped5.sem}
/-- The kernel's scratches. -/
def blocks : Finset (Ref sig .scVector) := {cc0_scratch0, cc0_scratch1, cc0_scratch2, cc0_scratch3}

/-- The transfer semaphores are the tile's own. -/
theorem sems_own : sems.map (cell d L) ⊆ ownCells (tile d L) := by
  intro g hg
  obtain ⟨s, hs, rfl⟩ := Finset.mem_map.mp hg
  refine (mem_ownCells (g := cell d L s)).mpr ⟨rfl, ?_⟩
  show (SemLoc.dma s : SemLoc sig).isScoped .scVector = true
  clear hg; revert hs; revert s; decide

/-- The scratches are the tile's own. -/
theorem blocks_own : blocks.map (mine L) ⊆ ownRefs (τ := τ) (.scVector (cV L) (jV L)) := by
  intro b hb
  obtain ⟨r, hr, rfl⟩ := Finset.mem_map.mp hb
  refine SparseCore.Cfg.mem_ownRefs_of_owner (p := Proc.scVector (cV L) (jV L)) ?_
  fin_cases hr <;> rfl

omit [FloatOps F] in
/-- The six transfer semaphores are among the tile's own. -/
theorem ownSems0_tile :
    (ownSems0 (tile d L) : sProp (MM F))
      = iprop((semVal (tile d L, SemLoc.dma cc0_scoped0.sem) 0 ∗ semVal (tile d L, SemLoc.dma cc0_scoped1.sem) 0 ∗ semVal (tile d L, SemLoc.dma cc0_scoped2.sem) 0
          ∗ semVal (tile d L, SemLoc.dma cc0_scoped3.sem) 0 ∗ semVal (tile d L, SemLoc.dma cc0_scoped4.sem) 0 ∗ semVal (tile d L, SemLoc.dma cc0_scoped5.sem) 0)
          ∗ bigSep (ownCells (tile d L) \ sems.map (cell d L)) fun g => semVal g 0) := by
  unfold SparseCore.Cfg.ownSems0
  rw [bigSep_sdiff_split (sems_own d L), bigSep_map]
  conv_lhs => enter [1]; unfold sems
  rw [SparseCore.bigSep_insert' (by decide), SparseCore.bigSep_insert' (by decide), SparseCore.bigSep_insert' (by decide),
    SparseCore.bigSep_insert' (by decide), SparseCore.bigSep_insert' (by decide), bigSep_singleton]
  rfl

omit [FloatOps F] in
/-- The four scratches are among the tile's own buffers. -/
theorem ownBufs_tile :
    (ownBufs (tile d L) : sProp (MM F))
      = iprop(((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f))
          ∗ bigSep (ownRefs (τ := τ) (.scVector (cV L) (jV L)) \ blocks.map (mine L)) fun b => iprop(∃ f, ((d, b) : Loc nD τ sig) ↦{fullShare} f)) := by
  unfold SparseCore.Cfg.ownBufs
  refine (bigSep_sdiff_split (blocks_own L)).trans ?_
  rw [bigSep_map]
  conv_lhs => enter [1]; unfold blocks
  rw [SparseCore.bigSep_insert' (by decide), SparseCore.bigSep_insert' (by decide), SparseCore.bigSep_insert' (by decide), bigSep_singleton]
  rfl

end Own

/-- The kernel on one tile: its column comes back at the stacked frames, and the first tile's array at the halved lengths. -/
theorem tile_body (hF : (K (F := F)).Facts) (d : Dev nD) (L : grid0.Coords) (x f : S2048x32x256.Idx → F .f32) (l h : S16.Idx → BitVec 32)
    (O : CellTallies nD τ sig (HIx 1)) (W : Waits sig (HIx 1)) (hO : ∀ g, O g none = 0) :
    iprop(levAts (K (F := F)).L (K (F := F)).lev ∗ emp ∗ given d L x f l h
        ∗ scopedBufs (tile d L) ∗ scopedSems0 (tile d L) ∗ owes (tile d L) O W)
      ⊢ wp frame (wpE (defs₀ (F := F)) 𝒱₀ (tile d L) none) Set.univ
          (cc0__body L (Memref.whole main_v0_scv) (Memref.isWhole_whole _) (Memref.whole main_arg1_scv) (Memref.isWhole_whole _)
            (Memref.whole main_v1_0_scv) (Memref.isWhole_whole _) (Memref.whole main_v1_1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scoped0 cc0_scoped1 cc0_scoped2 cc0_scoped3 cc0_scoped4 cc0_scoped5)
          fun _ => iprop(given d L x (stacked l x) l (halved l) ∗ scopedBufs (tile d L) ∗ scopedSems0 (tile d L)
            ∗ ∃ W', ⌜∀ p ∈ W', p ∈ W ∨ p.2 = none⌝ ∗ owes (tile d L) O W') := by
  rw [cc0__body_eq_skeleton]; unfold cc0__body_skel
  rw [(K (F := F)).scopedBufs_V hF d (cV L) (jV L), SparseCore.Cfg.scopedSems0_V (Val := Elt F) d (cV L) (jV L), ownSems0_tile, ownBufs_tile]
  unfold given
  iintro ⟨#Hlv, -, ⟨Hx, Hl, Ho, Hh⟩, ⟨⟨Hb0, Hb1, Hb2, Hb3⟩, Hbufs⟩, ⟨⟨Hs0, Hs1, Hs2, Hs3, Hs4, Hs5⟩, Hsems⟩, HO⟩
  ihave Hmw := ((K (F := F)).mayWaits_none (thr := tile d L) hO) $$ Hlv
  rw [wp_bind]
  iapply (wp_wand_r Idealize.ShloMosaic.frame (wpE (defs₀ (F := F)) 𝒱₀ (tile d L) none) Set.univ)
  isplitl [Hmw Hl Hb1 Hb2 Hb3 Hs0 Hs1 Hs2 HO Hh]
  · iapply (prologue d L (tileShare L) l h O W)
    unfold scratches
    isplitl [Hmw]; · iexact Hmw
    isplitl [Hl]; · iexact Hl
    isplitl [Hb1 Hb2 Hb3 Hs0 Hs1 Hs2]
    · isplitl [Hb1]; · iexact Hb1
      isplitl [Hb2]; · iexact Hb2
      isplitl [Hb3]; · iexact Hb3
      isplitl [Hs0]; · iexact Hs0
      isplitl [Hs1]; · iexact Hs1
      iexact Hs2
    isplitl [HO]; · iexact HO
    iexact Hh
  iintro %r ⟨%hr, Hmw, Hl, Hc, ⟨%W₁, %hW₁, HO⟩, Hh⟩
  subst hr
  unfold cleared
  icases Hc with ⟨Hb1, Hb2, Hb3, Hs0, Hs1, Hs2⟩
  iapply (wp_wand_r Idealize.ShloMosaic.frame (wpE (defs₀ (F := F)) 𝒱₀ (tile d L) none) Set.univ)
  isplitl [Hmw Hx Hb0 Hb1 Hs3 Hs4 Hs5 HO Ho]
  · iapply (chunks d L (tileShare L) x f (count (l (ix1 (L 1))) (L 0).val) (count_lt _ _) O W₁)
    unfold held
    isplitr [Ho]
    · isplitl [Hmw]; · iexact Hmw
      isplitl [Hx]; · iexact Hx
      isplitl [Hb0]; · iexact Hb0
      isplitl [Hb1]; · iexact Hb1
      isplitl [Hs3]; · iexact Hs3
      isplitl [Hs4]; · iexact Hs4
      isplitl [Hs5]; · iexact Hs5
      iexists W₁
      isplitr; · ipureintro; exact fun p hp => .inl hp
      iexact HO
    iexact Ho
  unfold held
  iintro %_ ⟨⟨-, Hx, Hb0, Hb1, Hs3, Hs4, Hs5, %W₂, %hW₂, HO⟩, Ho⟩
  isplitl [Hx Hl Ho Hh]
  · isplitl [Hx]; · iexact Hx
    isplitl [Hl]; · iexact Hl
    isplitl [Ho]; · iapply (Entails.of_eq (pointsTo_congr (column_stacked L l x))) $$ Ho
    iexact Hh
  isplitl [Hb0 Hb1 Hb2 Hb3 Hbufs]
  · isplitr [Hbufs]
    · isplitl [Hb0]; · iexact Hb0
      isplitl [Hb1]; · iexists _; iexact Hb1
      isplitl [Hb2]; · iexact Hb2
      iexact Hb3
    iexact Hbufs
  isplitl [Hs0 Hs1 Hs2 Hs3 Hs4 Hs5 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      iexact Hs5
    iexact Hsems
  iexists W₂
  isplitr
  · ipureintro
    exact fun p hp => (hW₂ p hp).elim (fun h => hW₁ p h) .inr
  · iexact HO

end Cert.KernelIdeal.Stack

end
-- ==== Proof.KernelIdeal.Launch.lean ====
/-
  The kernel's run: the call takes the regrouped input, the lengths and both results' arrays, deals them to the tiles, and
  brings them back with the results in place; @main regroups `x` before the call and the stacked frames after it.
-/
module

public import proofs.«01_k».proof.Proof.KernelIdeal.Tile

@[expose] public section

noncomputable section

namespace Cert.KernelIdeal.Stack

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (wp_hlo_within)
open Idealize.ShloMosaic.Tactic

variable {F : FTy → Type} [FloatOps F]

/-! ## Dealing the arrays to the tiles -/

/-- The tile at core `c`, subcore `i`. -/
def coords (c : Fin 2) (i : Fin 16) : grid0.Coords :=
  fun | 0 => c | 1 => i | ⟨_ + 2, h⟩ => absurd h (Nat.not_lt.2 (Nat.le_add_left _ _))

/-- The columns of one core's tiles. -/
def cols (c : Fin 2) : Finset S2048x32x256.Idx := Finset.univ.biUnion fun i : Fin 16 => col (coords c i)

omit [FloatOps F] in
/-- An element belongs to core `c` exactly when its column's parity is `c`. -/
theorem mem_cols {c : Fin 2} {y : S2048x32x256.Idx} : y ∈ cols c ↔ (y 1).val % 2 = c.val := by
  unfold cols
  rw [Finset.mem_biUnion]
  have h1 : (y 1).val < 32 := (y 1).isLt
  constructor
  · rintro ⟨i, -, hy⟩
    have e : (y 1).val = 2 * i.val + c.val := mem_col.mp hy
    omega
  · intro e
    refine ⟨⟨(y 1).val / 2, by omega⟩, Finset.mem_univ _, mem_col.mpr ?_⟩
    show (y 1).val = 2 * ((y 1).val / 2) + c.val
    omega

omit [FloatOps F] in
/-- No two tiles of a core share a column, -/
theorem col_disjoint (c : Fin 2) : ∀ i ∈ (Finset.univ : Finset (Fin 16)), ∀ j ∈ (Finset.univ : Finset (Fin 16)), i ≠ j →
    Disjoint (col (coords c i)) (col (coords c j)) := by
  intro i _ j _ h
  refine Finset.disjoint_left.mpr fun y hi hj => h (Fin.ext ?_)
  have e1 : (y 1).val = 2 * i.val + c.val := mem_col.mp hi
  have e2 : (y 1).val = 2 * j.val + c.val := mem_col.mp hj
  omega

omit [FloatOps F] in
/-- no two cores share a column, -/
theorem cols_disjoint : ∀ i ∈ (Finset.univ : Finset (Fin 2)), ∀ j ∈ (Finset.univ : Finset (Fin 2)), i ≠ j → Disjoint (cols i) (cols j) := by
  intro i _ j _ h
  refine Finset.disjoint_left.mpr fun y hi hj => h (Fin.ext ?_)
  rw [← mem_cols.mp hi, mem_cols.mp hj]

omit [FloatOps F] in
/-- and the two cores' columns are all there are. -/
theorem cols_cover : (Finset.univ : Finset (Fin 2)).biUnion cols = (Finset.univ : Finset S2048x32x256.Idx) := by
  ext y
  simp only [Finset.mem_biUnion, Finset.mem_univ, true_and, iff_true]
  exact ⟨⟨(y 1).val % 2, Nat.mod_lt _ (by decide)⟩, mem_cols.mpr rfl⟩

omit [FloatOps F] in
/-- The output array is its 32 columns. -/
theorem out_dealt (d : Dev nD) (f : S2048x32x256.Idx → F .f32) :
    (oLoc d ↦{fullShare} f : sProp (MM F))
      = bigSep Finset.univ fun c : Fin 2 => bigSep Finset.univ fun i : Fin 16 => oLoc d ↦[col (coords c i)]{fullShare} f := by
  have h : (oLoc d ↦[(Finset.univ : Finset (Fin 2)).biUnion cols]{fullShare} f : sProp (MM F))
      = bigSep Finset.univ fun c : Fin 2 => oLoc d ↦[cols c]{fullShare} f :=
    pointsTo_biUnion (ℓ := oLoc d) Finset.univ cols cols_disjoint
  rw [cols_cover] at h
  exact h.trans (bigSep_congr fun c _ => pointsTo_biUnion (ℓ := oLoc d) Finset.univ (fun i : Fin 16 => col (coords c i)) (col_disjoint c))

omit [FloatOps F] in
/-- An array every tile reads is its shares. -/
theorem read_dealt (ℓ : Loc nD τ sig) (f : Buf (Elt F) ℓ) :
    (ℓ ↦{fullShare} f : sProp (MM F))
      = bigSep Finset.univ fun c : Fin 2 => bigSep Finset.univ fun i : Fin 16 => ℓ ↦{tileShare (coords c i)} f :=
  (Transfers.pointsTo_deal (Finset.univ : Finset (Fin 2)) ⟨0, Finset.mem_univ _⟩ fullShare).trans
    (bigSep_congr fun _ _ => Transfers.pointsTo_deal (Finset.univ : Finset (Fin 16)) ⟨0, Finset.mem_univ _⟩ _)

omit [FloatOps F] in
/-- Nothing, any number of times, is nothing. -/
theorem bigSep_emp' {I : Type} (s : Finset I) : (bigSep s fun _ => iprop(emp)) = (iprop(emp) : sProp (MM F)) := bigSep_emp_const s

omit [FloatOps F] in
/-- What only member 0 holds. -/
theorem zero_holds {n : ℕ} (P : sProp (MM F)) :
    (bigSep (Finset.univ : Finset (Fin (n + 1))) fun i => if i.val = 0 then P else iprop(emp)) = P := by
  rw [SparseCore.bigSep_erase' (Finset.mem_univ (0 : Fin (n + 1)))]
  have h : (bigSep ((Finset.univ : Finset (Fin (n + 1))).erase 0) fun i => if i.val = 0 then P else iprop(emp)) = (iprop(emp) : sProp (MM F)) :=
    (bigSep_congr fun i hi => if_neg fun e => Finset.ne_of_mem_erase hi (Fin.ext e)).trans (bigSep_emp_const _)
  rw [h, if_pos (show (0 : Fin (n + 1)).val = 0 from rfl)]
  exact equiv_iff.mp BI.sep_emp

omit [FloatOps F] in
/-- What the first tile holds. -/
theorem first_dealt (P : sProp (MM F)) :
    (bigSep (Finset.univ : Finset (Fin 2)) fun c => bigSep (Finset.univ : Finset (Fin 16)) fun i => first (coords c i) P) = P := by
  refine (bigSep_congr fun c _ => ?_).trans (zero_holds (n := 1) P)
  by_cases h : c.val = 0
  · rw [if_pos h]
    exact (bigSep_congr fun i _ => if_pos h).trans (zero_holds (n := 15) P)
  · rw [if_neg h]
    exact (bigSep_congr fun i _ => if_neg h).trans (bigSep_emp_const _)

/-- The call's four arrays are what its tiles are given. -/
theorem all_dealt (d : Dev nD) (x f : S2048x32x256.Idx → F .f32) (l h : S16.Idx → BitVec 32) :
    (bigSep (Finset.univ : Finset (Fin 2)) fun c => bigSep (Finset.univ : Finset (Fin 16)) fun i => given d (coords c i) x f l h)
      = iprop((xLoc d ↦{fullShare} x) ∗ (lLoc d ↦{fullShare} l) ∗ (oLoc d ↦{fullShare} f) ∗ (hLoc d ↦{fullShare} h)) := by
  rw [read_dealt (xLoc d), read_dealt (lLoc d), out_dealt]
  conv_rhs => rw [← first_dealt (hLoc d ↦{fullShare} h)]
  rw [← bigSep_sep', ← bigSep_sep', ← bigSep_sep']
  refine bigSep_congr fun c _ => ?_
  rw [← bigSep_sep', ← bigSep_sep', ← bigSep_sep']
  rfl

/-! ## What the handshakes carry -/

variable (m : (ℓ : Loc nD τ sig) → Buf (Elt F) ℓ) (ρ : Dev nD → PrngReg)

/-- `x` regrouped into columns: what the call is given. -/
abbrev regrouped (d : Dev nD) : S2048x32x256.Idx → F .f32 := shapeCast S2048x32x256 (m (aLoc d)) shapeCasts_S4096x16x256_S2048x32x256

/-- What a tile is given, and what it gives back. -/
abbrev before (d : Dev nD) (L : grid0.Coords) : sProp (MM F) := given d L (regrouped m d) (m (oLoc d)) (m (lLoc d)) (m (hLoc d))
/-- What a tile gives back: its column and, from the first tile, the halved lengths in place. -/
abbrev after (d : Dev nD) (L : grid0.Coords) : sProp (MM F) :=
  given d L (regrouped m d) (stacked (m (lLoc d)) (regrouped m d)) (m (lLoc d)) (halved (m (lLoc d)))

/-- What a handshake carries can be stored with it: -/
instance first_storable (L : grid0.Coords) (P : sProp (MM F)) [BI.Storable (upEmb : UEmb _ (MM F)) P] :
    BI.Storable (upEmb : UEmb _ (MM F)) (first L P) := by
  unfold first; split
  · split <;> infer_instance
  · infer_instance

/-- a tile's share, -/
instance given_storable (d : Dev nD) (L : grid0.Coords) (x f : S2048x32x256.Idx → F .f32) (l h : S16.Idx → BitVec 32) :
    BI.Storable (upEmb : UEmb _ (MM F)) (given d L x f l h) := by
  unfold given; infer_instance

/-- The call hands each core its tiles' parts, and a tile its own; they come back with the results in place. -/
def P : (K (F := F)).Pay (nD := nD) (Val := Elt F) (Name := ℕ) (U := UU) where
  st := fun q d c => match q with | 0 => bigSep (Finset.univ : Finset (Fin 16)) fun i => before m d (coords c i)
  dn := fun q d c => match q with | 0 => bigSep (Finset.univ : Finset (Fin 16)) fun i => after m d (coords c i)
  go := fun q d c i => match q with | 0 => before m d (coords c i)
  td := fun q d c i => match q with | 0 => after m d (coords c i)
  x := fun _ _ => iprop(emp)

/-- and each handshake's whole content. -/
instance P_storable : (P (F := F) m).IsStorable where
  st q d c := match q with
    | 0 => (inferInstance : BI.Storable (upEmb : UEmb _ (MM F)) (bigSep (Finset.univ : Finset (Fin 16)) fun i => before m d (coords c i)))
  dn q d c := match q with
    | 0 => (inferInstance : BI.Storable (upEmb : UEmb _ (MM F)) (bigSep (Finset.univ : Finset (Fin 16)) fun i => after m d (coords c i)))
  go q d c i := match q with
    | 0 => (inferInstance : BI.Storable (upEmb : UEmb _ (MM F)) (before m d (coords c i)))
  td q d c i := match q with
    | 0 => (inferInstance : BI.Storable (upEmb : UEmb _ (MM F)) (after m d (coords c i)))

/-! ## The launch theorem's obligations -/

/-- The task of a tile is the kernel's body at its coordinates. -/
theorem defs₀_vector (c : Fin τ.nSC) (s : Fin τ.nSub) :
    defs₀ (F := F) (.scVector c s) 0 ()
      = SparseCore.onTile hcore0 hsub0 (fun c s => cc0__body (coords c s)
          (Memref.whole main_v0_scv) (Memref.isWhole_whole _) (Memref.whole main_arg1_scv) (Memref.isWhole_whole _)
          (Memref.whole main_v1_0_scv) (Memref.isWhole_whole _) (Memref.whole main_v1_1_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3 cc0_scoped4 cc0_scoped5) ⟨⟩ c s := rfl

omit [FloatOps F] in
/-- A task that waits on no handshake also satisfies the weaker bound the launch asks for. -/
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile runs its task from what it is given to what it gives back. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body hF d (coords ⟨_, hc.1⟩ ⟨_, hc.2⟩) (regrouped m d) (m (oLoc d)) (m (lLoc d)) (m (hLoc d)) O W hO).trans
    (wp_mono frame _ _ fun _ => obl_post)

/-- A core's part is its tiles' parts, both ways. -/
theorem vecSplit : (K (F := F)).VecSplit' (P m) 0 := by
  intro d c
  show (bigSep (Finset.univ : Finset (Fin 16)) fun i => before m d (coords c i)) ⊢ |={Set.univ}=> iprop(
      (bigSep (Finset.univ : Finset (Fin 16)) fun i => before m d (coords c i))
      ∗ ((bigSep (Finset.univ : Finset (Fin 16)) fun i => after m d (coords c i))
          -∗ (bigSep (Finset.univ : Finset (Fin 16)) fun i => after m d (coords c i))))
  iintro H; imodintro
  isplitl [H]; · iexact H
  iintro H; iexact H

/-! ## The launch's own state: the handshakes' rounds -/

/-- The ghost state at the launch: the handshakes' rounds, and no transfer under way. -/
def u₀ : UU := (initOf (K (F := F)).hsCells (K (F := F)).hsToks, 1)

/-- From it come the handshakes' cells; nothing else is dealt out. -/
theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp (MM F))) = iprop(emp) from
    (bigSep_congr fun _ _ => bigSep_emp_const _).trans (bigSep_emp_const _)]
  iempintro

/-! ## @main on the TensorCore -/

/-- @main's six arrays as buffers of the device. -/
abbrev aRef : DevRef τ sig := Proc.devRef .tc (main_arg0 : Ref sig .tc)
abbrev lRef : DevRef τ sig := Proc.devRef .tc (main_arg1 : Ref sig .tc)
abbrev xRef : DevRef τ sig := Proc.devRef .tc (main_v0 : Ref sig .tc)
abbrev oRef : DevRef τ sig := Proc.devRef .tc (main_v1_0 : Ref sig .tc)
abbrev hRef : DevRef τ sig := Proc.devRef .tc (main_v1_1 : Ref sig .tc)
abbrev rRef : DevRef τ sig := Proc.devRef .tc (main_v2 : Ref sig .tc)
abbrev arrays : Finset (DevRef τ sig) := {aRef, lRef, xRef, oRef, hRef, rRef}

/-- The regrouping of the input, and the regrouping of the stacked frames. -/
abbrev opIn : HloOp τ sig (Elt F) := StableHlo.reshape main_arg0 main_v0 (rfl : (.f32 : EltTy) = .f32) shapeCasts_S4096x16x256_S2048x32x256
abbrev opOut : HloOp τ sig (Elt F) := StableHlo.reshape main_v1_0 main_v2 (rfl : (.f32 : EltTy) = .f32) shapeCasts_S2048x32x256_S2048x16x512

/-- Both touch @main's arrays only. -/
theorem opIn_bufs : (opIn (F := F)).bufs ⊆ arrays := show ({aRef, xRef} : Finset (DevRef τ sig)) ⊆ arrays by decide
theorem opOut_bufs : (opOut (F := F)).bufs ⊆ arrays := show ({oRef, rRef} : Finset (DevRef τ sig)) ⊆ arrays by decide

omit [FloatOps F] in
/-- @main's six arrays held together are the six held one by one. -/
theorem held_arrays (d : Dev nD) (W : Valuation τ sig (Elt F)) :
    (StableHlo.held (T d) arrays W : sProp (MM F)) = iprop((aLoc d ↦{fullShare} W aRef) ∗ (lLoc d ↦{fullShare} W lRef) ∗ (xLoc d ↦{fullShare} W xRef)
      ∗ (oLoc d ↦{fullShare} W oRef) ∗ (hLoc d ↦{fullShare} W hRef) ∗ rLoc d ↦{fullShare} W rRef) := by
  unfold StableHlo.held arrays
  rw [SparseCore.bigSep_insert' (by decide), SparseCore.bigSep_insert' (by decide), SparseCore.bigSep_insert' (by decide),
    SparseCore.bigSep_insert' (by decide), SparseCore.bigSep_insert' (by decide), bigSep_singleton]

/-- The launch's contents; after the call, the results in place. -/
def V0 (d : Dev nD) : Valuation τ sig (Elt F) := fun b => m (d, b)
/-- The contents after the call, the results in place. -/
def V1 (d : Dev nD) : Valuation τ sig (Elt F) :=
  Function.update (Function.update ((opIn (F := F)).result (V0 m d)) oRef (stacked (m (lLoc d)) (regrouped m d))) hRef (halved (m (lLoc d)))

/-- The launch's buffers are @main's six arrays at their first contents. -/
theorem unscoped_held (d : Dev nD) : (unscopedBufs d (fun b => m ((SparseCore.T d).loc b)) : sProp (MM F)) = StableHlo.held (T d) arrays (V0 m d) := by
  rw [held_arrays]
  unfold unscopedBufs
  rw [show (Finset.univ.filter fun b : Ref sig .tc => ¬ b.isScoped) = {main_arg0, main_arg1, main_v0, main_v1_0, main_v1_1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

/-- A regrouping changes only the array it writes, -/
theorem in_other (W : Valuation τ sig (Elt F)) {r : Ref sig .tc} (h : r ≠ main_v0) :
    (opIn (F := F)).result W (Proc.devRef .tc r) = W (Proc.devRef .tc r) :=
  StableHlo.reshape_result_ne _ _ _ _ _ _ W h
/-- The same of the second regrouping, -/
theorem out_other (W : Valuation τ sig (Elt F)) {r : Ref sig .tc} (h : r ≠ main_v2) :
    (opOut (F := F)).result W (Proc.devRef .tc r) = W (Proc.devRef .tc r) :=
  StableHlo.reshape_result_ne _ _ _ _ _ _ W h
/-- which then holds what it regroups. -/
theorem in_new (W : Valuation τ sig (Elt F)) :
    (opIn (F := F)).result W xRef = shapeCast S2048x32x256 (W aRef) shapeCasts_S4096x16x256_S2048x32x256 :=
  StableHlo.reshape_result _ _ _ _ _ _ W
/-- The same of the second regrouping. -/
theorem out_new (W : Valuation τ sig (Elt F)) :
    (opOut (F := F)).result W rRef = shapeCast S2048x16x512 (W oRef) shapeCasts_S2048x32x256_S2048x16x512 :=
  StableHlo.reshape_result _ _ _ _ _ _ W

/-- The arrays once `x` is regrouped. -/
theorem held_in (d : Dev nD) :
    (StableHlo.held (T d) arrays ((opIn (F := F)).result (V0 m d)) : sProp (MM F))
      = iprop((aLoc d ↦{fullShare} m (aLoc d)) ∗ (lLoc d ↦{fullShare} m (lLoc d)) ∗ (xLoc d ↦{fullShare} regrouped m d)
        ∗ (oLoc d ↦{fullShare} m (oLoc d)) ∗ (hLoc d ↦{fullShare} m (hLoc d)) ∗ rLoc d ↦{fullShare} m (rLoc d)) := by
  rw [held_arrays, in_new, in_other (r := main_arg0) _ (by decide), in_other (r := main_arg1) _ (by decide),
    in_other (r := main_v1_0) _ (by decide), in_other (r := main_v1_1) _ (by decide), in_other (r := main_v2) _ (by decide)]
  rfl

/-- What @main returns first: the stacked frames. -/
abbrev frames (d : Dev nD) : S2048x16x512.Idx → F .f32 :=
  shapeCast S2048x16x512 (stacked (m (lLoc d)) (regrouped m d)) shapeCasts_S2048x32x256_S2048x16x512

/-- After the call the results' arrays hold the results, and the others what they held. -/
theorem V1_out (d : Dev nD) : V1 m d oRef = stacked (m (lLoc d)) (regrouped m d) :=
  (Function.update_of_ne (show oRef ≠ hRef by decide) _ _).trans (Function.update_self _ _ _)
theorem V1_halved (d : Dev nD) : V1 m d hRef = halved (m (lLoc d)) := Function.update_self _ _ _
theorem V1_other (d : Dev nD) {r : Ref sig .tc} (ho : r ≠ main_v1_0) (hh : r ≠ main_v1_1) :
    V1 m d (Proc.devRef .tc r) = (opIn (F := F)).result (V0 m d) (Proc.devRef .tc r) :=
  (Function.update_of_ne (fun e => hh (Proc.devRef_injective _ e)) _ _).trans
    (Function.update_of_ne (fun e => ho (Proc.devRef_injective _ e)) _ _)

/-- The arrays at the valuation after the call. -/
theorem held_called (d : Dev nD) :
    (StableHlo.held (T d) arrays (V1 m d) : sProp (MM F))
      = iprop((aLoc d ↦{fullShare} m (aLoc d)) ∗ (lLoc d ↦{fullShare} m (lLoc d)) ∗ (xLoc d ↦{fullShare} regrouped m d)
        ∗ (oLoc d ↦{fullShare} stacked (m (lLoc d)) (regrouped m d)) ∗ (hLoc d ↦{fullShare} halved (m (lLoc d))) ∗ rLoc d ↦{fullShare} m (rLoc d)) := by
  rw [held_arrays, V1_out, V1_halved, V1_other m d (r := main_arg0) (by decide) (by decide), V1_other m d (r := main_arg1) (by decide) (by decide),
    V1_other m d (r := main_v0) (by decide) (by decide), V1_other m d (r := main_v2) (by decide) (by decide),
    in_new, in_other (r := main_arg0) _ (by decide), in_other (r := main_arg1) _ (by decide), in_other (r := main_v2) _ (by decide)]
  rfl

/-- The arrays when @main returns. -/
theorem held_out (d : Dev nD) :
    (StableHlo.held (T d) arrays ((opOut (F := F)).result (V1 m d)) : sProp (MM F))
      = iprop((aLoc d ↦{fullShare} m (aLoc d)) ∗ (lLoc d ↦{fullShare} m (lLoc d)) ∗ (xLoc d ↦{fullShare} regrouped m d)
        ∗ (oLoc d ↦{fullShare} stacked (m (lLoc d)) (regrouped m d)) ∗ (hLoc d ↦{fullShare} halved (m (lLoc d))) ∗ rLoc d ↦{fullShare} frames m d) := by
  rw [held_arrays, out_new, out_other (r := main_arg0) _ (by decide), out_other (r := main_arg1) _ (by decide),
    out_other (r := main_v0) _ (by decide), out_other (r := main_v1_0) _ (by decide), out_other (r := main_v1_1) _ (by decide),
    V1_out, V1_halved, V1_other m d (r := main_arg0) (by decide) (by decide), V1_other m d (r := main_arg1) (by decide) (by decide),
    V1_other m d (r := main_v0) (by decide) (by decide),
    in_new, in_other (r := main_arg0) _ (by decide), in_other (r := main_arg1) _ (by decide)]
  rfl

/-- What the call takes for the two cores, and what it hands back. -/
theorem st0_eq (d : Dev nD) : (bigSep Finset.univ fun c : Fin ((K (F := F)).nCore 0) => (P m).st 0 d c)
    = iprop((xLoc d ↦{fullShare} regrouped m d) ∗ (lLoc d ↦{fullShare} m (lLoc d)) ∗ (oLoc d ↦{fullShare} m (oLoc d)) ∗ (hLoc d ↦{fullShare} m (hLoc d))) :=
  all_dealt d _ _ _ _
/-- What the call hands back for the two cores: both results in place. -/
theorem dn0_eq (d : Dev nD) : (bigSep Finset.univ fun c : Fin ((K (F := F)).nCore 0) => (P m).dn 0 d c)
    = iprop((xLoc d ↦{fullShare} regrouped m d) ∗ (lLoc d ↦{fullShare} m (lLoc d)) ∗ (oLoc d ↦{fullShare} stacked (m (lLoc d)) (regrouped m d))
      ∗ (hLoc d ↦{fullShare} halved (m (lLoc d)))) :=
  all_dealt d _ _ _ _

/-- What @main leaves: the operands as they were, the two results. -/
abbrev FIN (d : Dev nD) : sProp (MM F) :=
  iprop((aLoc d ↦{fullShare} m (aLoc d)) ∗ (lLoc d ↦{fullShare} m (lLoc d)) ∗ (hLoc d ↦{fullShare} halved (m (lLoc d))) ∗ rLoc d ↦{fullShare} frames m d)

/-- @main: the regrouping, the call, the regrouping of its first result. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := arrays) opIn_bufs (V := V0 m d)) $$ [Hb Hheld]
  · isplitl [Hb]; · iexact Hb
    iexact Hheld
  iintro ⟨Hb, Hheld⟩
  ihave Hh := (Entails.of_eq (held_in (F := F) m d)) $$ Hheld
  icases Hh with ⟨Ha, Hl, Hx, Ho, Hh, Hr⟩
  rw [wp_ret]; imodintro
  iapply ((K (F := F)).wp_run (D (F := F)) 𝒱 (EH := EH) (P := P m) κ d 0) $$ [Hst Ha Hl Hx Ho Hh Hr Hb Hts]
  isplitr; · iexact Hctx
  isplitl [Hst]; · iexact Hst
  isplitl [Hx Hl Ho Hh]
  · rw [st0_eq]
    isplitl [Hx]; · iexact Hx
    isplitl [Hl]; · iexact Hl
    isplitl [Ho]; · iexact Ho
    iexact Hh
  iintro ⟨Hst, Hdn⟩
  ihave Hdn' := (Entails.of_eq (dn0_eq m d)) $$ Hdn
  icases Hdn' with ⟨Hx, Hl, Ho, Hh⟩
  iapply (wp_hlo_within 𝒱 (SparseCore.T d) none Set.univ (op := opOut) (S := arrays) opOut_bufs (V := V1 m d)) $$ [Hb Ha Hl Hx Ho Hh Hr]
  · isplitl [Hb]; · iexact Hb
    rw [held_called]
    isplitl [Ha]; · iexact Ha
    isplitl [Hl]; · iexact Hl
    isplitl [Hx]; · iexact Hx
    isplitl [Ho]; · iexact Ho
    isplitl [Hh]; · iexact Hh
    iexact Hr
  iintro ⟨Hb, Hheld⟩
  ihave Hout := (Entails.of_eq (held_out (F := F) m d)) $$ Hheld
  icases Hout with ⟨Ha, Hl, -, -, Hh, Hr⟩
  rw [wp_ret]; imodintro; imodintro
  isplitl [Hst]; · iexact Hst
  isplitr [Hb Hts]
  · isplitl [Ha]; · iexact Ha
    isplitl [Hl]; · iexact Hl
    isplitl [Hh]; · iexact Hh
    iexact Hr
  isplitl [Hb] <;> iassumption

/-- What the memory holds at the end. -/
def fq (d : Dev nD) (s' : Phys nD τ sig (Elt F)) : Prop :=
  s'.mem.mem (rLoc d) = frames m d ∧ s'.mem.mem (hLoc d) = halved (m (lLoc d)) ∧ s'.mem.mem (aLoc d) = m (aLoc d) ∧ s'.mem.mem (lLoc d) = m (lLoc d)

/-- The memory agrees with an array held whole. -/
theorem agrees {ℓ : Loc nD τ sig} {f : Buf (Elt F) ℓ} {s' : Phys nD τ sig (Elt F)} :
    iprop((ℓ ↦{fullShare} f) ∗ SI s') ⊢ (iprop(⌜s'.mem.mem ℓ = f⌝ ∗ SI s') : sProp (MM F)) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

/-- What @main ends with determines the memory at the end. -/
theorem hfin (d : Dev nD) (s' : Phys nD τ sig (Elt F)) : iprop(FIN m d ∗ SI s') ⊢ (⌜fq m d s'⌝ : sProp (MM F)) := by
  iintro ⟨⟨Ha, Hl, Hh, Hr⟩, HSI⟩
  ihave H := (agrees (F := F)) $$ [Ha HSI]
  · isplitl [Ha] <;> iassumption
  icases H with ⟨%ha, HSI⟩
  ihave H := (agrees (F := F)) $$ [Hl HSI]
  · isplitl [Hl] <;> iassumption
  icases H with ⟨%hl, HSI⟩
  ihave H := (agrees (F := F)) $$ [Hh HSI]
  · isplitl [Hh] <;> iassumption
  icases H with ⟨%hh, HSI⟩
  ihave H := (agrees (F := F)) $$ [Hr HSI]
  · isplitl [Hr] <;> iassumption
  icases H with ⟨%hr, HSI⟩
  ipureintro; exact ⟨hr, hh, ha, hl⟩

/-! ## The run -/

/-- The end of every execution: both results in place, both operands as they were, every semaphore at zero. -/
def QC : PUnit × MemSt nD τ sig (Elt F) → Prop := fun r =>
  (∀ c : Dev nD, r.2.mem (rLoc c) = frames m c ∧ r.2.mem (hLoc c) = halved (m (lLoc c)) ∧ r.2.mem (aLoc c) = m (aLoc c) ∧ r.2.mem (lLoc c) = m (lLoc c))
    ∧ r.2.sem = fun _ => 0

/-- Every weakly fair execution terminates, no operation faulting, with both results in place. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Stack

end
-- ==== Proof.Reference.lean ====
/-
  What the reference computes, index by index: each stacked frame reads the two frames it is made of, zero from the
  sequence's length on, and each length is halved and rounded up.
-/
module

public import proofs.«01_k».proof.Defs
public import Idealize.ShloMosaic.Lib.Pipeline.Value
public import Idealize.ShloMosaic.Lib.IdealHost
public import Idealize.ShloMosaic.Lib.WordCmp
public import Idealize.ShloMosaic.Lib.Quiescent
public import proofs.«01_k».proof.Proof.Gen.ReferenceIdeal
public import proofs.«01_k».proof.Proof.Gen.ReferenceIdeal.Run

@[expose] public section

noncomputable section

namespace Cert.ReferenceIdeal.Plain

open Cert.ReferenceIdeal Cert.ReferenceIdeal.Gen
open Idealize.ShloMosaic Idealize.ShloMosaic.ValueIdx Idealize.SL.Sem

variable {F : FTy → Type} [FloatOps F]

/-! ## The stacked frames -/

/-- The input with zero in place of every frame at or past its sequence's length. -/
def masked (x : FVec F S4096x16x256 .f32) (l : IVec S16 32) : FVec F S4096x16x256 .f32 := fun i =>
  if ((i 0).val : ℤ) < (l (ix1 (i 1 : Fin 16))).toInt then x i else FloatOps.ofBits .f32 0x00000000#32

/-- Stacked frame `t` of sequence `n` at channel `c`: the masked input at time `2 t + c / 256`, channel `c % 256`. -/
def stacked (x : FVec F S4096x16x256 .f32) (l : IVec S16 32) : FVec F S2048x16x512 .f32 := fun y =>
  let t : Fin 2048 := y 0
  let c : Fin 512 := y 2
  masked x l (ix3 (⟨2 * t.val + c.val / 256, by omega⟩ : Fin 4096) (y 1 : Fin 16) (⟨c.val % 256, by omega⟩ : Fin 256))

/-- A frame's time, as a word, is below a length exactly when it is as an integer. -/
theorem time_lt (t : ℕ) (ht : t < 4096) (w : BitVec 32) : IntOp.cmpi .slt (BitVec.ofNat 32 t) w = BitVec.ofBool (decide ((t : ℤ) < w.toInt)) := by
  show BitVec.ofBool (decide ((BitVec.ofNat 32 t).toInt < w.toInt)) = _
  have e : (BitVec.ofNat 32 t).toInt = (t : ℤ) := by
    rw [BitVec.toInt_eq_toNat_cond, BitVec.toNat_ofNat]
    have h : t % 2 ^ 32 = t := Nat.mod_eq_of_lt (by omega)
    rw [h, if_pos (by omega)]
  rw [e]

/-- A choice by the word of a decided proposition is the choice by that proposition. -/
theorem select_ofBool {α : Type} (p : Prop) [Decidable p] (a b : α) :
    Scalar.select (BitVec.ofBool (decide p)) a b = if p then a else b := by
  by_cases h : p
  · simp [Scalar.select, h]
  · simp [Scalar.select, h]

/-- The reference's choice between the input and zero is the masked input. -/
theorem where_eq (x : FVec F S4096x16x256 .f32) (l : IVec S16 32) :
    select (broadcastInDim S4096x16x256 ![0, 1, 2] bcast_S4096x16x1_S4096x16x256_0_1_2
        (broadcastInDim S4096x16x1 ![0, 1] bcast_S4096x16_S4096x16x1_0_1
          (cmpi .slt (broadcastInDim S4096x16 ![0, 1] bcast_S4096x1_S4096x16_0_1 (broadcastInDim S4096x1 ![0] bcast_S4096_S4096x1_0 (iotaInDim S4096 32 0)))
            (broadcastInDim S4096x16 ![0, 1] bcast_S1x16_S4096x16_0_1 (broadcastInDim S1x16 ![1] bcast_S16_S1x16_1 l)))))
      x (broadcastInDim S4096x16x256 ![] bcast_S_S4096x16x256 (constant S_ .f32 0x00000000#32)) = masked x l := by
  funext i
  obtain ⟨t, n, c, rfl⟩ : ∃ (t : Fin 4096) (n : Fin 16) (c : Fin 256), i = ix3 t n c := ⟨i 0, i 1, i 2, eq_ix3 i⟩
  rw [select_apply, broadcastInDim_scalar_apply]
  rw [broadcastInDim_apply _ _ _ (ix3 t n c) (ix3 t n (0 : Fin 1)) (by intro a; fin_cases a <;> rfl)]
  rw [broadcastInDim_apply _ _ _ (ix3 t n (0 : Fin 1)) (ix2 t n) (by intro a; fin_cases a <;> rfl)]
  show Scalar.select (IntOp.cmpi .slt _ _) _ _ = _
  rw [broadcastInDim_apply _ _ _ (ix2 t n) (ix2 t (0 : Fin 1)) (by intro a; fin_cases a <;> rfl)]
  rw [broadcastInDim_apply _ _ _ (ix2 t (0 : Fin 1)) (ix1 t) (by intro a; fin_cases a <;> rfl)]
  rw [broadcastInDim_apply _ _ _ (ix2 t n) (ix2 (0 : Fin 1) n) (by intro a; fin_cases a <;> rfl)]
  rw [broadcastInDim_apply _ _ _ (ix2 (0 : Fin 1) n) (ix1 n) (by intro a; fin_cases a <;> rfl)]
  show Scalar.select (IntOp.cmpi .slt (BitVec.ofNat 32 t.val) (l (ix1 n))) _ _ = _
  rw [time_lt _ t.isLt, select_ofBool]
  rfl

/-- Sequences first, nothing appended, pairs of frames stacked, time first again: the stacked frames of the masked input. -/
theorem stack_eq (x : FVec F S4096x16x256 .f32) (l : IVec S16 32) (z : FVec F S16x0x256 .f32) :
    transpose S2048x16x512 [1, 0, 2]
      (shapeCast S16x2048x512 (concatenate S16x4096x256 1 [⟨S16x4096x256, transpose S16x4096x256 [1, 0, 2] (masked x l) transposes_S4096x16x256_S16x4096x256_1_0_2⟩, ⟨S16x0x256, z⟩]
        concatenates_S16x4096x256_S16x0x256_S16x4096x256_d1) shapeCasts_S16x4096x256_S16x2048x512)
      transposes_S16x2048x512_S2048x16x512_1_0_2 = stacked x l := by
  funext y
  obtain ⟨t, n, c, rfl⟩ : ∃ (t : Fin 2048) (n : Fin 16) (c : Fin 512), y = ix3 t n c := ⟨y 0, y 1, y 2, eq_ix3 y⟩
  have ht : 2 * t.val + c.val / 256 < 4096 := by omega
  have hc : c.val % 256 < 256 := by omega
  rw [transpose_apply _ _ _ (ix3 t n c) (ix3 n t c) (by intro b; fin_cases b <;> rfl)]
  rw [shapeCast_apply _ _ (ix3 n t c) (ix3 n (⟨_, ht⟩ : Fin 4096) (⟨_, hc⟩ : Fin 256)) (by
    rw [Shape.rowMajor_val_three, Shape.rowMajor_val_three]
    show (n.val * 4096 + (2 * t.val + c.val / 256)) * 256 + c.val % 256 = (n.val * 2048 + t.val) * 512 + c.val
    omega)]
  rw [concatenate_pair_apply_left _ _ _ _ (ix3 n (⟨_, ht⟩ : Fin 4096) (⟨_, hc⟩ : Fin 256)) rfl (ix3 n (⟨_, ht⟩ : Fin 4096) (⟨_, hc⟩ : Fin 256)) (by intro b; rfl)]
  rw [transpose_apply _ _ _ (ix3 n (⟨_, ht⟩ : Fin 4096) (⟨_, hc⟩ : Fin 256)) (ix3 (⟨_, ht⟩ : Fin 4096) n (⟨_, hc⟩ : Fin 256)) (by intro b; fin_cases b <;> rfl)]
  rfl

/-- The reference's first result, as its operations compose it, is the stacked frames. -/
theorem frames_eq (x : FVec F S4096x16x256 .f32) (l : IVec S16 32) (z : FVec F S16x0x256 .f32) :
    transpose S2048x16x512 [1, 0, 2]
      (shapeCast S16x2048x512 (concatenate S16x4096x256 1 [⟨S16x4096x256, transpose S16x4096x256 [1, 0, 2]
          (select (broadcastInDim S4096x16x256 ![0, 1, 2] bcast_S4096x16x1_S4096x16x256_0_1_2
            (broadcastInDim S4096x16x1 ![0, 1] bcast_S4096x16_S4096x16x1_0_1
              (cmpi .slt (broadcastInDim S4096x16 ![0, 1] bcast_S4096x1_S4096x16_0_1 (broadcastInDim S4096x1 ![0] bcast_S4096_S4096x1_0 (iotaInDim S4096 32 0)))
                (broadcastInDim S4096x16 ![0, 1] bcast_S1x16_S4096x16_0_1 (broadcastInDim S1x16 ![1] bcast_S16_S1x16_1 l)))))
            x (broadcastInDim S4096x16x256 ![] bcast_S_S4096x16x256 (constant S_ .f32 0x00000000#32)))
          transposes_S4096x16x256_S16x4096x256_1_0_2⟩, ⟨S16x0x256, z⟩]
        concatenates_S16x4096x256_S16x0x256_S16x4096x256_d1) shapeCasts_S16x4096x256_S16x2048x512)
      transposes_S16x2048x512_S2048x16x512_1_0_2 = stacked x l := by
  rw [where_eq]; exact stack_eq x l z

/-! ## The lengths -/

/-- Half of each length, rounded up. -/
def halves (l : IVec S16 32) : IVec S16 32 :=
  fptosi 32 (Host.ceil (Host.divf (sitofp .f32 l) (broadcastInDim S16 ![] bcast_S_S16 (constant (F := Ideal) S_ .f32 0x40000000#32))) : FVec Ideal S16 .f32)

/-- The word `0x40000000` is two. -/
theorem two_word : Ideal.ofBits .f32 0x40000000#32 = ((2 : ℝ) : EReal) := by
  simp [Ideal.ofBits, Ideal.ieee, -EReal.coe_mul]; norm_num

/-- Half of a non-negative integer, rounded up, is the integer plus one halved and rounded down. -/
theorem ceil_half (k : ℕ) : ⌈((k : ℤ) : ℝ) * (1 / 2 : ℝ)⌉ = (((k + 1) / 2 : ℕ) : ℤ) := by
  rw [Int.ceil_eq_iff]
  have h : k = 2 * ((k + 1) / 2) ∨ k + 1 = 2 * ((k + 1) / 2) := by omega
  generalize (k + 1) / 2 = q at *
  rcases h with h | h
  · have h' : (k : ℝ) = 2 * q := by exact_mod_cast h
    push_cast; constructor <;> linarith
  · have h' : (k : ℝ) + 1 = 2 * q := by exact_mod_cast h
    push_cast; constructor <;> linarith

/-- A non-negative length halved and rounded up over the reals is the length plus one, shifted right by one as a word. -/
theorem halves_apply (l : IVec S16 32) (i : S16.Idx) (h : 0 ≤ (l i).toInt) :
    halves l i = BitVec.ofNat 32 (((l i).toNat + 1) / 2) := by
  have hk : (l i).toInt = ((l i).toNat : ℤ) ∧ (l i).toNat < 2 ^ 31 := by
    have := (l i).isLt
    rw [BitVec.toInt_eq_toNat_cond] at h ⊢
    split at h <;> omega
  show Ideal.fptosi 32 (Ideal.liftRound Int.ceil (Ideal.div (((l i).toInt : ℝ) : EReal)
    (broadcastInDim S16 ![] bcast_S_S16 (constant (F := Ideal) S_ .f32 0x40000000#32) i))) = _
  rw [broadcastInDim_scalar_apply]
  show Ideal.fptosi 32 (Ideal.liftRound Int.ceil (Ideal.div (((l i).toInt : ℝ) : EReal) (Ideal.ofBits .f32 0x40000000#32))) = _
  rw [two_word, Ideal.div_coe (by norm_num), ← EReal.coe_mul, Ideal.liftRound_coe, hk.1, ceil_half]
  unfold Ideal.fptosi
  rw [Ideal.toIntClamped_coe, if_pos (by positivity), Int.floor_intCast]
  have e : max (-((2 ^ (32 - 1) : ℕ) : ℤ)) (min (((2 ^ (32 - 1) : ℕ) : ℤ) - 1) ((((l i).toNat + 1) / 2 : ℕ) : ℤ)) = ((((l i).toNat + 1) / 2 : ℕ) : ℤ) := by
    have := hk.2
    omega
  rw [e, BitVec.ofInt_natCast]

/-! ## The run -/

/-- Every execution of the reference ends with the stacked frames and the halved lengths, its arguments as they were. -/
theorem run_main (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = stacked (F := Ideal) (m ((c.tc : Thread nD τ).loc main_arg0)) (m ((c.tc : Thread nD τ).loc main_arg1))
      ∧ r.2.mem ((c.tc : Thread nD τ).loc main_v17) = halves (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (frames_eq _ _ _), (h c).2.1, (h c).2.2.1, (h c).2.2.2⟩)
    (Cert.ReferenceIdeal.Value.run m ρ)

end Cert.ReferenceIdeal.Plain

end
-- ==== Proof.Algebraic.lean ====
/-
  The kernel's two results are the reference's, when no length is negative: a column's count of kept rows says which frames
  lie before the end of their sequence, and the regrouping of the input and of the stacked frames names the same frames.
-/
module

public import proofs.«01_k».proof.Proof.KernelIdeal.Launch
public import proofs.«01_k».proof.Proof.Reference
public import Idealize.ShloMosaic.Lib.ReduceAll
public import proofs.«01_k».proof.Proof.Gen.Pre_nonneg

@[expose] public section

noncomputable section

namespace Cert.Proof.Algebraic

open Idealize.ShloMosaic Idealize.ShloMosaic.ValueIdx Idealize.SL.Sem
open Cert.KernelIdeal Cert.KernelIdeal.Gen
open Cert.KernelIdeal.Stack (aLoc lLoc rLoc hLoc count inCol zero halved frames regrouped)

/-! ## The precondition -/

/-- The precondition says that each length is non-negative as an integer. -/
theorem nonneg_of_pre (x : FVec Ideal S4096x16x256 .f32) (l : IVec S16 32) (h : Cert.Pre_nonneg.fn (F := Ideal) x l = fun _ => 1#1) (i : S16.Idx) :
    0 ≤ (l i).toInt := by
  have : Subsingleton Cert.Pre_nonneg.S_.Idx := ⟨fun a b => funext fun k => k.elim0⟩
  have e : IntOp.cmpi .sge (l i) 0#32 = 1#1 := Host.reduce_andi_all _ _ _ _ ix0 (congrFun h ix0) i
  have e' : (BitVec.ofBool ((0#32 : BitVec 32).sle (l i))) = 1#1 := e
  rw [BitVec.sle_eq_decide] at e'
  by_contra hn
  rw [decide_eq_false (by simpa using hn)] at e'
  exact absurd e' (by decide)

/-- A non-negative word is its own value, below half the range. -/
theorem toNat_of_nonneg (w : BitVec 32) (h : 0 ≤ w.toInt) : w.toInt = (w.toNat : ℤ) ∧ w.toNat < 2 ^ 31 := by
  have := w.isLt
  rw [BitVec.toInt_eq_toNat_cond] at h ⊢
  split at h <;> omega

/-! ## The counts -/

/-- A word shifted right by one is half of it. -/
theorem shrui_one (w : BitVec 32) : (Scalar.shrui w 1#32).toNat = w.toNat / 2 := by
  show (w >>> (1#32 : BitVec 32)).toNat = _
  rw [BitVec.ushiftRight_eq', BitVec.toNat_ushiftRight, Nat.shiftRight_eq_div_pow]
  rfl

/-- The count of half `j`: of a non-negative length, the number of frames `2 t + j` before it. -/
theorem count_toNat (w : BitVec 32) (h : 0 ≤ w.toInt) (j : ℕ) (hj : j < 2) : (count w j).toNat = (w.toNat + 1 - j) / 2 := by
  have hw := (toNat_of_nonneg w h).2
  unfold Cert.KernelIdeal.Stack.count
  rw [shrui_one]
  congr 1
  obtain rfl | rfl : j = 0 ∨ j = 1 := by omega
  · show (w + (1#32 - 0#32)).toNat = _
    rw [BitVec.toNat_add]; simp; omega
  · show (w + (1#32 - 1#32)).toNat = _
    rw [BitVec.toNat_add]; simp; omega

/-- Row `t` of half `j` is kept exactly when frame `2 t + j` lies before the sequence's end. -/
theorem kept_iff (w : BitVec 32) (h : 0 ≤ w.toInt) (t j : ℕ) (hj : j < 2) :
    t < (count w j).toNat ↔ ((2 * t + j : ℕ) : ℤ) < w.toInt := by
  rw [count_toNat w h j hj, (toNat_of_nonneg w h).1]
  omega

/-- The halved lengths are the reference's. -/
theorem halved_eq (l : IVec S16 32) (h : ∀ i, 0 ≤ (l i).toInt) : halved l = Cert.ReferenceIdeal.Plain.halves l := by
  funext i
  rw [Cert.ReferenceIdeal.Plain.halves_apply l i (h i)]
  have hw := (toNat_of_nonneg (l i) (h i)).2
  refine BitVec.eq_of_toNat_eq ?_
  unfold halved
  rw [shrui_one, BitVec.toNat_ofNat]
  show (l i + 1#32).toNat / 2 = _
  rw [BitVec.toNat_add]; simp; omega

/-! ## The frames -/

variable (m : (ℓ : Loc nD τ sig) → Buf (Elt Ideal) ℓ) (d : Dev nD)

/-- Column `16 j + n` of row `t` of the regrouped input is frame `2 t + j` of sequence `n`. -/
theorem regrouped_apply (t : Fin 2048) (j n : ℕ) (hj : j < 2) (hn : n < 16) (c : Fin 256) :
    regrouped m d (ix3 t (inCol j n hj hn) c) = m (aLoc d) (ix3 (⟨2 * t.val + j, by omega⟩ : Fin 4096) (⟨n, hn⟩ : Fin 16) c) := by
  unfold regrouped
  refine shapeCast_apply _ _ _ _ ?_
  refine (Shape.rowMajor_val_three (d := ![4096, 16, 256]) _).trans ?_
  rw [Shape.rowMajor_val_three]
  show ((2 * t.val + j) * 16 + n) * 256 + c.val = (t.val * 32 + (16 * j + n)) * 256 + c.val
  omega

/-- The kernel's frames are the reference's stacked frames. -/
theorem frames_eq (h : ∀ i, 0 ≤ (m (lLoc d) i : BitVec 32).toInt) :
    frames m d = Cert.ReferenceIdeal.Plain.stacked (F := Ideal) (m (aLoc d)) (m (lLoc d)) := by
  funext y
  obtain ⟨t, n, c, rfl⟩ : ∃ (t : Fin 2048) (n : Fin 16) (c : Fin 512), y = ix3 t n c := ⟨y 0, y 1, y 2, eq_ix3 y⟩
  have hj : c.val / 256 < 2 := by omega
  have hq : 2 * n.val + c.val / 256 < 32 := by omega
  have hc : c.val % 256 < 256 := by omega
  have e1 : (2 * n.val + c.val / 256) / 2 = n.val := by omega
  have e2 : (2 * n.val + c.val / 256) % 2 = c.val / 256 := by omega
  unfold frames
  rw [shapeCast_apply _ _ (ix3 t n c) (ix3 t (⟨_, hq⟩ : Fin 32) (⟨_, hc⟩ : Fin 256)) (by
    rw [Shape.rowMajor_val_three, Shape.rowMajor_val_three]
    show (t.val * 32 + (2 * n.val + c.val / 256)) * 256 + c.val % 256 = (t.val * 16 + n.val) * 512 + c.val
    omega)]
  show (if t.val < (count (m (lLoc d) (ix1 (⟨(2 * n.val + c.val / 256) / 2, by omega⟩ : Fin 16))) ((2 * n.val + c.val / 256) % 2)).toNat
      then regrouped m d (ix3 t (inCol ((2 * n.val + c.val / 256) % 2) ((2 * n.val + c.val / 256) / 2) (by omega) (by omega)) ⟨_, hc⟩) else zero)
    = if ((2 * t.val + c.val / 256 : ℕ) : ℤ) < (m (lLoc d) (ix1 n) : BitVec 32).toInt
      then m (aLoc d) (ix3 (⟨2 * t.val + c.val / 256, by omega⟩ : Fin 4096) n (⟨_, hc⟩ : Fin 256)) else zero (F := Ideal)
  simp only [e1, e2]
  rw [regrouped_apply]
  exact if_congr (kept_iff _ (h _) _ _ hj) rfl rfl

/-! ## The claim -/

/-- From memories that agree on the arguments, no length negative, the kernel and the reference end with the same results. -/
theorem algebraic : Cert.algebraic_KernelIdeal_ReferenceIdeal_pre_nonneg := by
  intro m g m' g' hpre hagree
  have hl : ∀ c i, 0 ≤ (m (lLoc c) i : BitVec 32).toInt := fun c => nonneg_of_pre _ _ (hpre c)
  refine ⟨fun c => frames m c, fun c => halved (m (lLoc c)),
    (θ_run Cert.KernelIdeal.defs _ _).mono (fun _ h c => h.1 c) (Cert.KernelIdeal.Stack.run_main (F := Ideal) m g),
    (θ_run Cert.ReferenceIdeal.defs _ _).mono (fun _ h c => ?_) (Cert.ReferenceIdeal.Plain.run_main m' g')⟩
  obtain ⟨h0, h1, h2, h3⟩ := h c
  refine ⟨h0.trans ?_, h1.trans ?_, h2, h3⟩
  · rw [(hagree c).1, (hagree c).2]; exact (frames_eq m c (hl c)).symm
  · rw [(hagree c).2]; exact (halved_eq _ (hl c)).symm

end Cert.Proof.Algebraic

end
-- ==== Proof.lean ====
/-
  The claims about the kernel that masks the padded frames and stacks pairs of frames, assembled: the kernel's run
  (Proof/Kernel, and Proof/KernelIdeal for the same program over the extended reals), the reference's run
  (Proof/Reference) and the equality of their results (Proof/Algebraic).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_nonneg
public import proofs.«01_k».proof.Proof.Kernel.Launch
public import proofs.«01_k».proof.Proof.KernelIdeal.Launch
public import proofs.«01_k».proof.Proof.Reference
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The kernel terminates without fault, leaves its arguments unchanged and every semaphore at zero. -/
theorem frame_kernel : Cert.quiescent_Kernel := fun m ρ _ =>
  (θ_run Cert.Kernel.defs _ _).mono (fun _ h => ⟨fun c => (h.1 c).2.2, h.2⟩) (Cert.Kernel.Stack.run_main (F := Bits) m ρ)

/-- The same of the kernel over the extended reals. -/
theorem frame_kernelIdeal : Cert.quiescent_KernelIdeal := fun m ρ _ =>
  (θ_run Cert.KernelIdeal.defs _ _).mono (fun _ h => ⟨fun c => (h.1 c).2.2, h.2⟩) (Cert.KernelIdeal.Stack.run_main (F := Ideal) m ρ)

/-- The same of the reference, which has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Plain.run_main m ρ)

/-- All the claims. -/
theorem claim : Cert.Claim :=
  ⟨Cert.Kernel.Gen.facts, Cert.KernelIdeal.Gen.facts, Cert.ReferenceIdeal.Gen.facts, Cert.Pre_nonneg.Gen.facts,
    frame_kernel, frame_kernelIdeal, fun m ρ _ => frame_kernelIdeal m ρ trivial, frame_reference,
    fun m ρ _ => frame_reference m ρ trivial, trivial, Algebraic.algebraic⟩

end Cert.Proof

end
